-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x8192 : Shape := ⟨3, ![6, 4096, 8192]⟩
abbrev S8192 : Shape := ⟨1, ![8192]⟩
abbrev S11264x8192 : Shape := ⟨2, ![11264, 8192]⟩
abbrev S11264 : Shape := ⟨1, ![11264]⟩
abbrev S24576x8192 : Shape := ⟨2, ![24576, 8192]⟩
abbrev S1x8192 : Shape := ⟨2, ![1, 8192]⟩
abbrev S1x11264 : Shape := ⟨2, ![1, 11264]⟩
abbrev S24576x11264 : Shape := ⟨2, ![24576, 11264]⟩
abbrev S192x1x128 : Shape := ⟨3, ![192, 1, 128]⟩
abbrev S128x8192 : Shape := ⟨2, ![128, 8192]⟩
abbrev S1024x8192 : Shape := ⟨2, ![1024, 8192]⟩
abbrev S1x1024 : Shape := ⟨2, ![1, 1024]⟩
abbrev S1024x1024 : Shape := ⟨2, ![1024, 1024]⟩
abbrev S1x1x128 : Shape := ⟨3, ![1, 1, 128]⟩
abbrev S1024x128 : Shape := ⟨2, ![1024, 128]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S128x128 : Shape := ⟨2, ![128, 128]⟩
abbrev S256x8192 : Shape := ⟨2, ![256, 8192]⟩
abbrev S1024x256 : Shape := ⟨2, ![1024, 256]⟩
abbrev S1x256 : Shape := ⟨2, ![1, 256]⟩
abbrev S6x4096x11264 : Shape := ⟨3, ![6, 4096, 11264]⟩
abbrev S6x4096x1 : Shape := ⟨3, ![6, 4096, 1]⟩

abbrev nBuf : Space → Nat
  | .hbm => 13
  | .vmem => 17
  | .smem => 0
  | _ => 0

abbrev bufTy : (tb : Table) → Fin (tcTables nBuf tb) → BufTy
  | .hbm, ⟨0, _⟩ => ⟨S6x4096x8192, .bf16⟩
  | .hbm, ⟨1, _⟩ => ⟨S8192, .f32⟩
  | .hbm, ⟨2, _⟩ => ⟨S11264x8192, .fp8e4m3⟩
  | .hbm, ⟨3, _⟩ => ⟨S11264, .f32⟩
  | .hbm, ⟨4, _⟩ => ⟨S24576x8192, .bf16⟩
  | .hbm, ⟨5, _⟩ => ⟨S1x8192, .f32⟩
  | .hbm, ⟨6, _⟩ => ⟨S1x11264, .f32⟩
  | .hbm, ⟨7, _⟩ => ⟨S24576x11264, .bf16⟩
  | .hbm, ⟨8, _⟩ => ⟨S24576x8192, .fp8e4m3⟩
  | .hbm, ⟨9, _⟩ => ⟨S192x1x128, .f32⟩
  | .hbm, ⟨10, _⟩ => ⟨S6x4096x11264, .bf16⟩
  | .hbm, ⟨11, _⟩ => ⟨S6x4096x8192, .fp8e4m3⟩
  | .hbm, ⟨12, _⟩ => ⟨S6x4096x1, .f32⟩
  | .local _ .vmem, ⟨0, _⟩ => ⟨S128x8192, .bf16⟩
  | .local _ .vmem, ⟨1, _⟩ => ⟨S128x8192, .bf16⟩
  | .local _ .vmem, ⟨2, _⟩ => ⟨S1x8192, .f32⟩
  | .local _ .vmem, ⟨3, _⟩ => ⟨S1024x8192, .fp8e4m3⟩
  | .local _ .vmem, ⟨4, _⟩ => ⟨S1024x8192, .fp8e4m3⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S128x8192, .fp8e4m3⟩
  | .local _ .vmem, ⟨10, _⟩ => ⟨S128x8192, .fp8e4m3⟩
  | .local _ .vmem, ⟨11, _⟩ => ⟨S1x1x128, .f32⟩
  | .local _ .vmem, ⟨12, _⟩ => ⟨S1x1x128, .f32⟩
  | .local _ .vmem, ⟨13, _⟩ => ⟨S1024x8192, .fp8e4m3⟩
  | .local _ .vmem, ⟨14, _⟩ => ⟨S1024x8192, .fp8e4m3⟩
  | .local _ .vmem, ⟨15, _⟩ => ⟨S1024x128, .f32⟩
  | .local _ .vmem, ⟨16, _⟩ => ⟨S1024x128, .f32⟩
  | _, _ => ⟨S6x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![25, 11], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c0_i32_17 : BitVec 32 := 0#32
  let v35 : BitVec 32 := Scalar.addi v1 c0_i32_17
  v35
def k0_off1 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v728 : Index := Scalar.indexCast v36
  let c0_243 : Index := 0#32
  ![v728.toNat, 0]
def k0_off2 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v746 : Index := Scalar.indexCast v36
  let c128_252 : Index := 128#32
  ![v746.toNat, 128]
def k0_off3 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v764 : Index := Scalar.indexCast v36
  let c256_261 : Index := 256#32
  ![v764.toNat, 256]
def k0_off4 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v782 : Index := Scalar.indexCast v36
  let c384_270 : Index := 384#32
  ![v782.toNat, 384]
def k0_off5 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v800 : Index := Scalar.indexCast v36
  let c512_279 : Index := 512#32
  ![v800.toNat, 512]
def k0_off6 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v818 : Index := Scalar.indexCast v36
  let c640_288 : Index := 640#32
  ![v818.toNat, 640]
def k0_off7 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v836 : Index := Scalar.indexCast v36
  let c768_297 : Index := 768#32
  ![v836.toNat, 768]
def k0_off8 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v854 : Index := Scalar.indexCast v36
  let c896_306 : Index := 896#32
  ![v854.toNat, 896]
def k0_off9 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v872 : Index := Scalar.indexCast v36
  let c1024_315 : Index := 1024#32
  ![v872.toNat, 1024]
def k0_off10 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v890 : Index := Scalar.indexCast v36
  let c1152_324 : Index := 1152#32
  ![v890.toNat, 1152]
def k0_off11 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v908 : Index := Scalar.indexCast v36
  let c1280_333 : Index := 1280#32
  ![v908.toNat, 1280]
def k0_off12 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v926 : Index := Scalar.indexCast v36
  let c1408_342 : Index := 1408#32
  ![v926.toNat, 1408]
def k0_off13 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v944 : Index := Scalar.indexCast v36
  let c1536_351 : Index := 1536#32
  ![v944.toNat, 1536]
def k0_off14 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v962 : Index := Scalar.indexCast v36
  let c1664_360 : Index := 1664#32
  ![v962.toNat, 1664]
def k0_off15 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v980 : Index := Scalar.indexCast v36
  let c1792_369 : Index := 1792#32
  ![v980.toNat, 1792]
def k0_off16 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v998 : Index := Scalar.indexCast v36
  let c1920_378 : Index := 1920#32
  ![v998.toNat, 1920]
def k0_off17 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1016 : Index := Scalar.indexCast v36
  let c2048_387 : Index := 2048#32
  ![v1016.toNat, 2048]
def k0_off18 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1034 : Index := Scalar.indexCast v36
  let c2176_396 : Index := 2176#32
  ![v1034.toNat, 2176]
def k0_off19 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1052 : Index := Scalar.indexCast v36
  let c2304_405 : Index := 2304#32
  ![v1052.toNat, 2304]
def k0_off20 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1070 : Index := Scalar.indexCast v36
  let c2432_414 : Index := 2432#32
  ![v1070.toNat, 2432]
def k0_off21 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1088 : Index := Scalar.indexCast v36
  let c2560_423 : Index := 2560#32
  ![v1088.toNat, 2560]
def k0_off22 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1106 : Index := Scalar.indexCast v36
  let c2688_432 : Index := 2688#32
  ![v1106.toNat, 2688]
def k0_off23 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1124 : Index := Scalar.indexCast v36
  let c2816_441 : Index := 2816#32
  ![v1124.toNat, 2816]
def k0_off24 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1142 : Index := Scalar.indexCast v36
  let c2944_450 : Index := 2944#32
  ![v1142.toNat, 2944]
def k0_off25 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1160 : Index := Scalar.indexCast v36
  let c3072_459 : Index := 3072#32
  ![v1160.toNat, 3072]
def k0_off26 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1178 : Index := Scalar.indexCast v36
  let c3200_468 : Index := 3200#32
  ![v1178.toNat, 3200]
def k0_off27 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1196 : Index := Scalar.indexCast v36
  let c3328_477 : Index := 3328#32
  ![v1196.toNat, 3328]
def k0_off28 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1214 : Index := Scalar.indexCast v36
  let c3456_486 : Index := 3456#32
  ![v1214.toNat, 3456]
def k0_off29 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1232 : Index := Scalar.indexCast v36
  let c3584_495 : Index := 3584#32
  ![v1232.toNat, 3584]
def k0_off30 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1250 : Index := Scalar.indexCast v36
  let c3712_504 : Index := 3712#32
  ![v1250.toNat, 3712]
def k0_off31 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1268 : Index := Scalar.indexCast v36
  let c3840_513 : Index := 3840#32
  ![v1268.toNat, 3840]
def k0_off32 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1286 : Index := Scalar.indexCast v36
  let c3968_522 : Index := 3968#32
  ![v1286.toNat, 3968]
def k0_off33 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1304 : Index := Scalar.indexCast v36
  let c4096_531 : Index := 4096#32
  ![v1304.toNat, 4096]
def k0_off34 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1322 : Index := Scalar.indexCast v36
  let c4224_540 : Index := 4224#32
  ![v1322.toNat, 4224]
def k0_off35 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1340 : Index := Scalar.indexCast v36
  let c4352_549 : Index := 4352#32
  ![v1340.toNat, 4352]
def k0_off36 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1358 : Index := Scalar.indexCast v36
  let c4480_558 : Index := 4480#32
  ![v1358.toNat, 4480]
def k0_off37 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1376 : Index := Scalar.indexCast v36
  let c4608_567 : Index := 4608#32
  ![v1376.toNat, 4608]
def k0_off38 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1394 : Index := Scalar.indexCast v36
  let c4736_576 : Index := 4736#32
  ![v1394.toNat, 4736]
def k0_off39 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1412 : Index := Scalar.indexCast v36
  let c4864_585 : Index := 4864#32
  ![v1412.toNat, 4864]
def k0_off40 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1430 : Index := Scalar.indexCast v36
  let c4992_594 : Index := 4992#32
  ![v1430.toNat, 4992]
def k0_off41 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1448 : Index := Scalar.indexCast v36
  let c5120_603 : Index := 5120#32
  ![v1448.toNat, 5120]
def k0_off42 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1466 : Index := Scalar.indexCast v36
  let c5248_612 : Index := 5248#32
  ![v1466.toNat, 5248]
def k0_off43 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1484 : Index := Scalar.indexCast v36
  let c5376_621 : Index := 5376#32
  ![v1484.toNat, 5376]
def k0_off44 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1502 : Index := Scalar.indexCast v36
  let c5504_630 : Index := 5504#32
  ![v1502.toNat, 5504]
def k0_off45 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1520 : Index := Scalar.indexCast v36
  let c5632_639 : Index := 5632#32
  ![v1520.toNat, 5632]
def k0_off46 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1538 : Index := Scalar.indexCast v36
  let c5760_648 : Index := 5760#32
  ![v1538.toNat, 5760]
def k0_off47 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1556 : Index := Scalar.indexCast v36
  let c5888_657 : Index := 5888#32
  ![v1556.toNat, 5888]
def k0_off48 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1574 : Index := Scalar.indexCast v36
  let c6016_666 : Index := 6016#32
  ![v1574.toNat, 6016]
def k0_off49 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1592 : Index := Scalar.indexCast v36
  let c6144_675 : Index := 6144#32
  ![v1592.toNat, 6144]
def k0_off50 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1610 : Index := Scalar.indexCast v36
  let c6272_684 : Index := 6272#32
  ![v1610.toNat, 6272]
def k0_off51 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1628 : Index := Scalar.indexCast v36
  let c6400_693 : Index := 6400#32
  ![v1628.toNat, 6400]
def k0_off52 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1646 : Index := Scalar.indexCast v36
  let c6528_702 : Index := 6528#32
  ![v1646.toNat, 6528]
def k0_off53 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1664 : Index := Scalar.indexCast v36
  let c6656_711 : Index := 6656#32
  ![v1664.toNat, 6656]
def k0_off54 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1682 : Index := Scalar.indexCast v36
  let c6784_720 : Index := 6784#32
  ![v1682.toNat, 6784]
def k0_off55 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1700 : Index := Scalar.indexCast v36
  let c6912_729 : Index := 6912#32
  ![v1700.toNat, 6912]
def k0_off56 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1718 : Index := Scalar.indexCast v36
  let c7040_738 : Index := 7040#32
  ![v1718.toNat, 7040]
def k0_off57 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1736 : Index := Scalar.indexCast v36
  let c7168_747 : Index := 7168#32
  ![v1736.toNat, 7168]
def k0_off58 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1754 : Index := Scalar.indexCast v36
  let c7296_756 : Index := 7296#32
  ![v1754.toNat, 7296]
def k0_off59 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1772 : Index := Scalar.indexCast v36
  let c7424_765 : Index := 7424#32
  ![v1772.toNat, 7424]
def k0_off60 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1790 : Index := Scalar.indexCast v36
  let c7552_774 : Index := 7552#32
  ![v1790.toNat, 7552]
def k0_off61 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1808 : Index := Scalar.indexCast v36
  let c7680_783 : Index := 7680#32
  ![v1808.toNat, 7680]
def k0_off62 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1826 : Index := Scalar.indexCast v36
  let c7808_792 : Index := 7808#32
  ![v1826.toNat, 7808]
def k0_off63 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1844 : Index := Scalar.indexCast v36
  let c7936_801 : Index := 7936#32
  ![v1844.toNat, 7936]
def k0_off64 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1862 : Index := Scalar.indexCast v36
  let c8064_810 : Index := 8064#32
  ![v1862.toNat, 8064]
def k0_off65 (i : grid0.Coords) (c0_i32_17 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v35 : BitVec 32 := Scalar.addi v1 c0_i32_17
  let v36 : BitVec 32 := v35
  let v1869 : Index := Scalar.indexCast v36
  let c0_813 : Index := 0#32
  ![v1869.toNat, 0]
def k0_mult2 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c32_i32_814 : BitVec 32 := 32#32
  let v1873 : BitVec 32 := Scalar.addi v1 c32_i32_814
  v1873
def k0_mult3 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c64_i32_1684 : BitVec 32 := 64#32
  let v3711 : BitVec 32 := Scalar.addi v1 c64_i32_1684
  v3711
def k0_mult4 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c96_i32 : BitVec 32 := 96#32
  let v5549 : BitVec 32 := Scalar.addi v1 c96_i32
  v5549
def k0_mult5 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  v1
def k0_off66 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v7387 : BitVec 32 := v1
  let v7388 : Index := Scalar.indexCast v7387
  let c0_3423 : Index := 0#32
  ![v7388.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_6 : BitVec 32 := 1#32
  let v16 : BitVec 1 := Scalar.cmpi .eq v15 c1_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_mult6 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c0_i32_26 : BitVec 32 := 0#32
  let v47 : BitVec 32 := Scalar.addi v1 c0_i32_26
  v47
def k0_off67 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v740 : Index := Scalar.indexCast v48
  let c0_254 : Index := 0#32
  ![v740.toNat, 0]
def k0_off68 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v758 : Index := Scalar.indexCast v48
  let c128_263 : Index := 128#32
  ![v758.toNat, 128]
def k0_off69 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v776 : Index := Scalar.indexCast v48
  let c256_272 : Index := 256#32
  ![v776.toNat, 256]
def k0_off70 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v794 : Index := Scalar.indexCast v48
  let c384_281 : Index := 384#32
  ![v794.toNat, 384]
def k0_off71 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v812 : Index := Scalar.indexCast v48
  let c512_290 : Index := 512#32
  ![v812.toNat, 512]
def k0_off72 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v830 : Index := Scalar.indexCast v48
  let c640_299 : Index := 640#32
  ![v830.toNat, 640]
def k0_off73 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v848 : Index := Scalar.indexCast v48
  let c768_308 : Index := 768#32
  ![v848.toNat, 768]
def k0_off74 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v866 : Index := Scalar.indexCast v48
  let c896_317 : Index := 896#32
  ![v866.toNat, 896]
def k0_off75 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v884 : Index := Scalar.indexCast v48
  let c1024_326 : Index := 1024#32
  ![v884.toNat, 1024]
def k0_off76 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v902 : Index := Scalar.indexCast v48
  let c1152_335 : Index := 1152#32
  ![v902.toNat, 1152]
def k0_off77 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v920 : Index := Scalar.indexCast v48
  let c1280_344 : Index := 1280#32
  ![v920.toNat, 1280]
def k0_off78 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v938 : Index := Scalar.indexCast v48
  let c1408_353 : Index := 1408#32
  ![v938.toNat, 1408]
def k0_off79 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v956 : Index := Scalar.indexCast v48
  let c1536_362 : Index := 1536#32
  ![v956.toNat, 1536]
def k0_off80 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v974 : Index := Scalar.indexCast v48
  let c1664_371 : Index := 1664#32
  ![v974.toNat, 1664]
def k0_off81 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v992 : Index := Scalar.indexCast v48
  let c1792_380 : Index := 1792#32
  ![v992.toNat, 1792]
def k0_off82 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1010 : Index := Scalar.indexCast v48
  let c1920_389 : Index := 1920#32
  ![v1010.toNat, 1920]
def k0_off83 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1028 : Index := Scalar.indexCast v48
  let c2048_398 : Index := 2048#32
  ![v1028.toNat, 2048]
def k0_off84 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1046 : Index := Scalar.indexCast v48
  let c2176_407 : Index := 2176#32
  ![v1046.toNat, 2176]
def k0_off85 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1064 : Index := Scalar.indexCast v48
  let c2304_416 : Index := 2304#32
  ![v1064.toNat, 2304]
def k0_off86 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1082 : Index := Scalar.indexCast v48
  let c2432_425 : Index := 2432#32
  ![v1082.toNat, 2432]
def k0_off87 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1100 : Index := Scalar.indexCast v48
  let c2560_434 : Index := 2560#32
  ![v1100.toNat, 2560]
def k0_off88 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1118 : Index := Scalar.indexCast v48
  let c2688_443 : Index := 2688#32
  ![v1118.toNat, 2688]
def k0_off89 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1136 : Index := Scalar.indexCast v48
  let c2816_452 : Index := 2816#32
  ![v1136.toNat, 2816]
def k0_off90 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1154 : Index := Scalar.indexCast v48
  let c2944_461 : Index := 2944#32
  ![v1154.toNat, 2944]
def k0_off91 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1172 : Index := Scalar.indexCast v48
  let c3072_470 : Index := 3072#32
  ![v1172.toNat, 3072]
def k0_off92 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1190 : Index := Scalar.indexCast v48
  let c3200_479 : Index := 3200#32
  ![v1190.toNat, 3200]
def k0_off93 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1208 : Index := Scalar.indexCast v48
  let c3328_488 : Index := 3328#32
  ![v1208.toNat, 3328]
def k0_off94 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1226 : Index := Scalar.indexCast v48
  let c3456_497 : Index := 3456#32
  ![v1226.toNat, 3456]
def k0_off95 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1244 : Index := Scalar.indexCast v48
  let c3584_506 : Index := 3584#32
  ![v1244.toNat, 3584]
def k0_off96 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1262 : Index := Scalar.indexCast v48
  let c3712_515 : Index := 3712#32
  ![v1262.toNat, 3712]
def k0_off97 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1280 : Index := Scalar.indexCast v48
  let c3840_524 : Index := 3840#32
  ![v1280.toNat, 3840]
def k0_off98 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1298 : Index := Scalar.indexCast v48
  let c3968_533 : Index := 3968#32
  ![v1298.toNat, 3968]
def k0_off99 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1316 : Index := Scalar.indexCast v48
  let c4096_542 : Index := 4096#32
  ![v1316.toNat, 4096]
def k0_off100 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1334 : Index := Scalar.indexCast v48
  let c4224_551 : Index := 4224#32
  ![v1334.toNat, 4224]
def k0_off101 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1352 : Index := Scalar.indexCast v48
  let c4352_560 : Index := 4352#32
  ![v1352.toNat, 4352]
def k0_off102 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1370 : Index := Scalar.indexCast v48
  let c4480_569 : Index := 4480#32
  ![v1370.toNat, 4480]
def k0_off103 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1388 : Index := Scalar.indexCast v48
  let c4608_578 : Index := 4608#32
  ![v1388.toNat, 4608]
def k0_off104 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1406 : Index := Scalar.indexCast v48
  let c4736_587 : Index := 4736#32
  ![v1406.toNat, 4736]
def k0_off105 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1424 : Index := Scalar.indexCast v48
  let c4864_596 : Index := 4864#32
  ![v1424.toNat, 4864]
def k0_off106 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1442 : Index := Scalar.indexCast v48
  let c4992_605 : Index := 4992#32
  ![v1442.toNat, 4992]
def k0_off107 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1460 : Index := Scalar.indexCast v48
  let c5120_614 : Index := 5120#32
  ![v1460.toNat, 5120]
def k0_off108 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1478 : Index := Scalar.indexCast v48
  let c5248_623 : Index := 5248#32
  ![v1478.toNat, 5248]
def k0_off109 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1496 : Index := Scalar.indexCast v48
  let c5376_632 : Index := 5376#32
  ![v1496.toNat, 5376]
def k0_off110 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1514 : Index := Scalar.indexCast v48
  let c5504_641 : Index := 5504#32
  ![v1514.toNat, 5504]
def k0_off111 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1532 : Index := Scalar.indexCast v48
  let c5632_650 : Index := 5632#32
  ![v1532.toNat, 5632]
def k0_off112 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1550 : Index := Scalar.indexCast v48
  let c5760_659 : Index := 5760#32
  ![v1550.toNat, 5760]
def k0_off113 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1568 : Index := Scalar.indexCast v48
  let c5888_668 : Index := 5888#32
  ![v1568.toNat, 5888]
def k0_off114 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1586 : Index := Scalar.indexCast v48
  let c6016_677 : Index := 6016#32
  ![v1586.toNat, 6016]
def k0_off115 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1604 : Index := Scalar.indexCast v48
  let c6144_686 : Index := 6144#32
  ![v1604.toNat, 6144]
def k0_off116 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1622 : Index := Scalar.indexCast v48
  let c6272_695 : Index := 6272#32
  ![v1622.toNat, 6272]
def k0_off117 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1640 : Index := Scalar.indexCast v48
  let c6400_704 : Index := 6400#32
  ![v1640.toNat, 6400]
def k0_off118 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1658 : Index := Scalar.indexCast v48
  let c6528_713 : Index := 6528#32
  ![v1658.toNat, 6528]
def k0_off119 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1676 : Index := Scalar.indexCast v48
  let c6656_722 : Index := 6656#32
  ![v1676.toNat, 6656]
def k0_off120 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1694 : Index := Scalar.indexCast v48
  let c6784_731 : Index := 6784#32
  ![v1694.toNat, 6784]
def k0_off121 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1712 : Index := Scalar.indexCast v48
  let c6912_740 : Index := 6912#32
  ![v1712.toNat, 6912]
def k0_off122 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1730 : Index := Scalar.indexCast v48
  let c7040_749 : Index := 7040#32
  ![v1730.toNat, 7040]
def k0_off123 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1748 : Index := Scalar.indexCast v48
  let c7168_758 : Index := 7168#32
  ![v1748.toNat, 7168]
def k0_off124 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1766 : Index := Scalar.indexCast v48
  let c7296_767 : Index := 7296#32
  ![v1766.toNat, 7296]
def k0_off125 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1784 : Index := Scalar.indexCast v48
  let c7424_776 : Index := 7424#32
  ![v1784.toNat, 7424]
def k0_off126 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1802 : Index := Scalar.indexCast v48
  let c7552_785 : Index := 7552#32
  ![v1802.toNat, 7552]
def k0_off127 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1820 : Index := Scalar.indexCast v48
  let c7680_794 : Index := 7680#32
  ![v1820.toNat, 7680]
def k0_off128 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1838 : Index := Scalar.indexCast v48
  let c7808_803 : Index := 7808#32
  ![v1838.toNat, 7808]
def k0_off129 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1856 : Index := Scalar.indexCast v48
  let c7936_812 : Index := 7936#32
  ![v1856.toNat, 7936]
def k0_off130 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1874 : Index := Scalar.indexCast v48
  let c8064_821 : Index := 8064#32
  ![v1874.toNat, 8064]
def k0_off131 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1881 : Index := Scalar.indexCast v48
  let c0_824 : Index := 0#32
  ![v1881.toNat, 0]
def k0_mult7 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c32_i32_836 : BitVec 32 := 32#32
  let v1897 : BitVec 32 := Scalar.addi v1 c32_i32_836
  v1897
def k0_mult8 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c64_i32_1717 : BitVec 32 := 64#32
  let v3747 : BitVec 32 := Scalar.addi v1 c64_i32_1717
  v3747
def k0_mult9 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c96_i32 : BitVec 32 := 96#32
  let v5597 : BitVec 32 := Scalar.addi v1 c96_i32
  v5597
def k0_mult10 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  v1
def k0_off132 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v7435 : BitVec 32 := v1
  let v7436 : Index := Scalar.indexCast v7435
  let c0_3467 : Index := 0#32
  ![v7436.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c0_i32_15 : BitVec 32 := 0#32
  let v31 : BitVec 1 := Scalar.cmpi .eq v30 c0_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_mult11 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c0_i32_26 : BitVec 32 := 0#32
  let v47 : BitVec 32 := Scalar.addi v1 c0_i32_26
  v47
def k0_off133 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v740 : Index := Scalar.indexCast v48
  let c0_254 : Index := 0#32
  ![v740.toNat, 0]
def k0_off134 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v758 : Index := Scalar.indexCast v48
  let c128_263 : Index := 128#32
  ![v758.toNat, 128]
def k0_off135 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v776 : Index := Scalar.indexCast v48
  let c256_272 : Index := 256#32
  ![v776.toNat, 256]
def k0_off136 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v794 : Index := Scalar.indexCast v48
  let c384_281 : Index := 384#32
  ![v794.toNat, 384]
def k0_off137 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v812 : Index := Scalar.indexCast v48
  let c512_290 : Index := 512#32
  ![v812.toNat, 512]
def k0_off138 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v830 : Index := Scalar.indexCast v48
  let c640_299 : Index := 640#32
  ![v830.toNat, 640]
def k0_off139 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v848 : Index := Scalar.indexCast v48
  let c768_308 : Index := 768#32
  ![v848.toNat, 768]
def k0_off140 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v866 : Index := Scalar.indexCast v48
  let c896_317 : Index := 896#32
  ![v866.toNat, 896]
def k0_off141 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v884 : Index := Scalar.indexCast v48
  let c1024_326 : Index := 1024#32
  ![v884.toNat, 1024]
def k0_off142 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v902 : Index := Scalar.indexCast v48
  let c1152_335 : Index := 1152#32
  ![v902.toNat, 1152]
def k0_off143 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v920 : Index := Scalar.indexCast v48
  let c1280_344 : Index := 1280#32
  ![v920.toNat, 1280]
def k0_off144 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v938 : Index := Scalar.indexCast v48
  let c1408_353 : Index := 1408#32
  ![v938.toNat, 1408]
def k0_off145 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v956 : Index := Scalar.indexCast v48
  let c1536_362 : Index := 1536#32
  ![v956.toNat, 1536]
def k0_off146 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v974 : Index := Scalar.indexCast v48
  let c1664_371 : Index := 1664#32
  ![v974.toNat, 1664]
def k0_off147 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v992 : Index := Scalar.indexCast v48
  let c1792_380 : Index := 1792#32
  ![v992.toNat, 1792]
def k0_off148 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1010 : Index := Scalar.indexCast v48
  let c1920_389 : Index := 1920#32
  ![v1010.toNat, 1920]
def k0_off149 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1028 : Index := Scalar.indexCast v48
  let c2048_398 : Index := 2048#32
  ![v1028.toNat, 2048]
def k0_off150 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1046 : Index := Scalar.indexCast v48
  let c2176_407 : Index := 2176#32
  ![v1046.toNat, 2176]
def k0_off151 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1064 : Index := Scalar.indexCast v48
  let c2304_416 : Index := 2304#32
  ![v1064.toNat, 2304]
def k0_off152 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1082 : Index := Scalar.indexCast v48
  let c2432_425 : Index := 2432#32
  ![v1082.toNat, 2432]
def k0_off153 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1100 : Index := Scalar.indexCast v48
  let c2560_434 : Index := 2560#32
  ![v1100.toNat, 2560]
def k0_off154 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1118 : Index := Scalar.indexCast v48
  let c2688_443 : Index := 2688#32
  ![v1118.toNat, 2688]
def k0_off155 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1136 : Index := Scalar.indexCast v48
  let c2816_452 : Index := 2816#32
  ![v1136.toNat, 2816]
def k0_off156 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1154 : Index := Scalar.indexCast v48
  let c2944_461 : Index := 2944#32
  ![v1154.toNat, 2944]
def k0_off157 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1172 : Index := Scalar.indexCast v48
  let c3072_470 : Index := 3072#32
  ![v1172.toNat, 3072]
def k0_off158 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1190 : Index := Scalar.indexCast v48
  let c3200_479 : Index := 3200#32
  ![v1190.toNat, 3200]
def k0_off159 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1208 : Index := Scalar.indexCast v48
  let c3328_488 : Index := 3328#32
  ![v1208.toNat, 3328]
def k0_off160 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1226 : Index := Scalar.indexCast v48
  let c3456_497 : Index := 3456#32
  ![v1226.toNat, 3456]
def k0_off161 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1244 : Index := Scalar.indexCast v48
  let c3584_506 : Index := 3584#32
  ![v1244.toNat, 3584]
def k0_off162 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1262 : Index := Scalar.indexCast v48
  let c3712_515 : Index := 3712#32
  ![v1262.toNat, 3712]
def k0_off163 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1280 : Index := Scalar.indexCast v48
  let c3840_524 : Index := 3840#32
  ![v1280.toNat, 3840]
def k0_off164 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1298 : Index := Scalar.indexCast v48
  let c3968_533 : Index := 3968#32
  ![v1298.toNat, 3968]
def k0_off165 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1316 : Index := Scalar.indexCast v48
  let c4096_542 : Index := 4096#32
  ![v1316.toNat, 4096]
def k0_off166 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1334 : Index := Scalar.indexCast v48
  let c4224_551 : Index := 4224#32
  ![v1334.toNat, 4224]
def k0_off167 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1352 : Index := Scalar.indexCast v48
  let c4352_560 : Index := 4352#32
  ![v1352.toNat, 4352]
def k0_off168 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1370 : Index := Scalar.indexCast v48
  let c4480_569 : Index := 4480#32
  ![v1370.toNat, 4480]
def k0_off169 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1388 : Index := Scalar.indexCast v48
  let c4608_578 : Index := 4608#32
  ![v1388.toNat, 4608]
def k0_off170 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1406 : Index := Scalar.indexCast v48
  let c4736_587 : Index := 4736#32
  ![v1406.toNat, 4736]
def k0_off171 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1424 : Index := Scalar.indexCast v48
  let c4864_596 : Index := 4864#32
  ![v1424.toNat, 4864]
def k0_off172 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1442 : Index := Scalar.indexCast v48
  let c4992_605 : Index := 4992#32
  ![v1442.toNat, 4992]
def k0_off173 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1460 : Index := Scalar.indexCast v48
  let c5120_614 : Index := 5120#32
  ![v1460.toNat, 5120]
def k0_off174 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1478 : Index := Scalar.indexCast v48
  let c5248_623 : Index := 5248#32
  ![v1478.toNat, 5248]
def k0_off175 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1496 : Index := Scalar.indexCast v48
  let c5376_632 : Index := 5376#32
  ![v1496.toNat, 5376]
def k0_off176 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1514 : Index := Scalar.indexCast v48
  let c5504_641 : Index := 5504#32
  ![v1514.toNat, 5504]
def k0_off177 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1532 : Index := Scalar.indexCast v48
  let c5632_650 : Index := 5632#32
  ![v1532.toNat, 5632]
def k0_off178 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1550 : Index := Scalar.indexCast v48
  let c5760_659 : Index := 5760#32
  ![v1550.toNat, 5760]
def k0_off179 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1568 : Index := Scalar.indexCast v48
  let c5888_668 : Index := 5888#32
  ![v1568.toNat, 5888]
def k0_off180 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1586 : Index := Scalar.indexCast v48
  let c6016_677 : Index := 6016#32
  ![v1586.toNat, 6016]
def k0_off181 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1604 : Index := Scalar.indexCast v48
  let c6144_686 : Index := 6144#32
  ![v1604.toNat, 6144]
def k0_off182 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1622 : Index := Scalar.indexCast v48
  let c6272_695 : Index := 6272#32
  ![v1622.toNat, 6272]
def k0_off183 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1640 : Index := Scalar.indexCast v48
  let c6400_704 : Index := 6400#32
  ![v1640.toNat, 6400]
def k0_off184 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1658 : Index := Scalar.indexCast v48
  let c6528_713 : Index := 6528#32
  ![v1658.toNat, 6528]
def k0_off185 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1676 : Index := Scalar.indexCast v48
  let c6656_722 : Index := 6656#32
  ![v1676.toNat, 6656]
def k0_off186 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1694 : Index := Scalar.indexCast v48
  let c6784_731 : Index := 6784#32
  ![v1694.toNat, 6784]
def k0_off187 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1712 : Index := Scalar.indexCast v48
  let c6912_740 : Index := 6912#32
  ![v1712.toNat, 6912]
def k0_off188 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1730 : Index := Scalar.indexCast v48
  let c7040_749 : Index := 7040#32
  ![v1730.toNat, 7040]
def k0_off189 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1748 : Index := Scalar.indexCast v48
  let c7168_758 : Index := 7168#32
  ![v1748.toNat, 7168]
def k0_off190 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1766 : Index := Scalar.indexCast v48
  let c7296_767 : Index := 7296#32
  ![v1766.toNat, 7296]
def k0_off191 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1784 : Index := Scalar.indexCast v48
  let c7424_776 : Index := 7424#32
  ![v1784.toNat, 7424]
def k0_off192 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1802 : Index := Scalar.indexCast v48
  let c7552_785 : Index := 7552#32
  ![v1802.toNat, 7552]
def k0_off193 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1820 : Index := Scalar.indexCast v48
  let c7680_794 : Index := 7680#32
  ![v1820.toNat, 7680]
def k0_off194 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1838 : Index := Scalar.indexCast v48
  let c7808_803 : Index := 7808#32
  ![v1838.toNat, 7808]
def k0_off195 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1856 : Index := Scalar.indexCast v48
  let c7936_812 : Index := 7936#32
  ![v1856.toNat, 7936]
def k0_off196 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1874 : Index := Scalar.indexCast v48
  let c8064_821 : Index := 8064#32
  ![v1874.toNat, 8064]
def k0_off197 (i : grid0.Coords) (c0_i32_26 : BitVec 32) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v47 : BitVec 32 := Scalar.addi v1 c0_i32_26
  let v48 : BitVec 32 := v47
  let v1881 : Index := Scalar.indexCast v48
  let c0_824 : Index := 0#32
  ![v1881.toNat, 0]
def k0_mult12 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c32_i32_836 : BitVec 32 := 32#32
  let v1897 : BitVec 32 := Scalar.addi v1 c32_i32_836
  v1897
def k0_mult13 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c64_i32_1717 : BitVec 32 := 64#32
  let v3747 : BitVec 32 := Scalar.addi v1 c64_i32_1717
  v3747
def k0_mult14 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let c96_i32 : BitVec 32 := 96#32
  let v5597 : BitVec 32 := Scalar.addi v1 c96_i32
  v5597
def k0_mult15 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  v1
def k0_off198 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v7435 : BitVec 32 := v1
  let v7436 : Index := Scalar.indexCast v7435
  let c0_3467 : Index := 0#32
  ![v7436.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c191_i32 : BitVec 32 := 191#32
  let v3 : BitVec 32 := Scalar.minsi v2 c191_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c191_i32 : BitVec 32 := 191#32
  let v3 : BitVec 32 := Scalar.minsi v2 c191_i32
  let c0_i32 : BitVec 32 := 0#32
  let c0_i32_0 : BitVec 32 := 0#32
  ![v3.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c191_i32 : BitVec 32 := 191#32
  let v3 : BitVec 32 := Scalar.minsi v2 c191_i32
  let c0_i32 : BitVec 32 := 0#32
  let c0_i32_0 : BitVec 32 := 0#32
  let c0_i32_1 : BitVec 32 := 0#32
  ![v3.toNat, c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S6x4096x8192 : Shape := ⟨3, ![6, 4096, 8192]⟩
abbrev S8192 : Shape := ⟨1, ![8192]⟩
abbrev S11264x8192 : Shape := ⟨2, ![11264, 8192]⟩
abbrev S11264 : Shape := ⟨1, ![11264]⟩
abbrev S253 : Shape := ⟨1, ![253]⟩
abbrev S_ : Shape := ⟨0, ![]⟩
abbrev S24576x8192 : Shape := ⟨2, ![24576, 8192]⟩
abbrev S1x8192 : Shape := ⟨2, ![1, 8192]⟩
abbrev S1x253 : Shape := ⟨2, ![1, 253]⟩
abbrev S1x11264 : Shape := ⟨2, ![1, 11264]⟩
abbrev S24576x11264 : Shape := ⟨2, ![24576, 11264]⟩
abbrev S24576x1 : Shape := ⟨2, ![24576, 1]⟩
abbrev S24576 : Shape := ⟨1, ![24576]⟩
abbrev S24576x253 : Shape := ⟨2, ![24576, 253]⟩
abbrev S6x4096x11264 : Shape := ⟨3, ![6, 4096, 11264]⟩
abbrev S6x4096x1 : Shape := ⟨3, ![6, 4096, 1]⟩

abbrev nBuf : Space → Nat
  | .hbm => 21
  | .vmem => 8
  | .smem => 0
  | _ => 0

abbrev bufTy : (tb : Table) → Fin (tcTables nBuf tb) → BufTy
  | .hbm, ⟨0, _⟩ => ⟨S6x4096x8192, .bf16⟩
  | .hbm, ⟨1, _⟩ => ⟨S8192, .f32⟩
  | .hbm, ⟨2, _⟩ => ⟨S11264x8192, .fp8e4m3⟩
  | .hbm, ⟨3, _⟩ => ⟨S11264, .f32⟩
  | .hbm, ⟨4, _⟩ => ⟨S253, .f32⟩
  | .hbm, ⟨5, _⟩ => ⟨S_, .f32⟩
  | .hbm, ⟨6, _⟩ => ⟨S253, .f32⟩
  | .hbm, ⟨7, _⟩ => ⟨S253, .f32⟩
  | .hbm, ⟨8, _⟩ => ⟨S_, .f32⟩
  | .hbm, ⟨9, _⟩ => ⟨S253, .f32⟩
  | .hbm, ⟨10, _⟩ => ⟨S253, .f32⟩
  | .hbm, ⟨11, _⟩ => ⟨S24576x8192, .bf16⟩
  | .hbm, ⟨12, _⟩ => ⟨S1x8192, .f32⟩
  | .hbm, ⟨13, _⟩ => ⟨S1x253, .f32⟩
  | .hbm, ⟨14, _⟩ => ⟨S1x11264, .f32⟩
  | .hbm, ⟨15, _⟩ => ⟨S24576x11264, .bf16⟩
  | .hbm, ⟨16, _⟩ => ⟨S24576x8192, .fp8e4m3⟩
  | .hbm, ⟨17, _⟩ => ⟨S24576x1, .f32⟩
  | .hbm, ⟨18, _⟩ => ⟨S6x4096x11264, .bf16⟩
  | .hbm, ⟨19, _⟩ => ⟨S6x4096x8192, .fp8e4m3⟩
  | .hbm, ⟨20, _⟩ => ⟨S6x4096x1, .f32⟩
  | .local _ .vmem, ⟨0, _⟩ => ⟨S24576x8192, .bf16⟩
  | .local _ .vmem, ⟨1, _⟩ => ⟨S1x8192, .f32⟩
  | .local _ .vmem, ⟨2, _⟩ => ⟨S1x253, .f32⟩
  | .local _ .vmem, ⟨3, _⟩ => ⟨S11264x8192, .fp8e4m3⟩
  | .local _ .vmem, ⟨4, _⟩ => ⟨S1x11264, .f32⟩
  | .local _ .vmem, ⟨5, _⟩ => ⟨S24576x11264, .bf16⟩
  | .local _ .vmem, ⟨6, _⟩ => ⟨S24576x8192, .fp8e4m3⟩
  | .local _ .vmem, ⟨7, _⟩ => ⟨S24576x1, .f32⟩
  | _, _ => ⟨S6x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x253 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11264x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x11264 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Buffers.lean ====
module

public import proofs.«01_k».proof.Proof.Gen.Kernel.Skeleton
public import proofs.«01_k».proof.Proof.Gen.Kernel.Frame
public import Idealize.ShloMosaic.Lib.Tactic

/-! # Names for a buffer held whole

Short names for the contents of a buffer and for holding it, which the runs of the body are stated with. -/

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole with the contents `f`. -/
abbrev pt (c : Dev nD) {sp : Space} {S : Shape} {e : EltTy} (M : Memref sig .tc sp S e) (f : Bf (F := F) c M) : sProp 𝕄 :=
  M.view.loc (c : Thread nD τ) ↦{fullShare} f

end Cert.Proof.Kernel

end
-- ==== Proof.Kernel.Run1.lean ====
module

public import proofs.«01_k».proof.Proof.Gen.Kernel.Skeleton
public import proofs.«01_k».proof.Proof.Gen.Kernel.Frame
public import Idealize.ShloMosaic.Lib.Tactic
public import proofs.«01_k».proof.Proof.Kernel.Buffers

/-! # The body at a point of the first grid row -/

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- At a point of the first grid row the body runs without fault: it quantises a chunk into the first pair of buffers. Every buffer that the branch reads alone is left as it was, and the others are left whole, with some contents. -/
theorem run1 (c : Dev nD) (i : grid0.Coords) (h1 : k0_cond1 i = 1#1) (h2 : ¬ k0_cond2 i = 1#1) (h3 : ¬ k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 f6 ∗ (∃ f, pt c M7 f) ∗ (∃ f, pt c M8 f) ∗ (∃ f, pt c M9 f) ∗ pt c M10 f10 ∗ (∃ f, pt c M11 f) ∗ pt c M12 f12) -∗ Q ⟨⟩))
        ⊢ wp frame (wpE (defs₀ (F := F)) Variants.none c none) E (cc0_smoothquant_linear i M2 w2 M3 w3 M4 w4 M5 w5 M6 w6 M7 w7 M8 w8 M9 w9 M10 w10 M11 w11 M12 w12) Q := by
  intro E Q
  iintro ⟨H2, H3, H4, H5, H6, H7, H8, H9, H10, H11, H12, Hk⟩
  sl_exec_parts
  sl_step
  iapply Hk
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexists _; iexact H11
  iexact H12

end Cert.Proof.Kernel

end
-- ==== Proof.Kernel.Run2.lean ====
module

public import proofs.«01_k».proof.Proof.Gen.Kernel.Skeleton
public import proofs.«01_k».proof.Proof.Gen.Kernel.Frame
public import Idealize.ShloMosaic.Lib.Tactic
public import proofs.«01_k».proof.Proof.Kernel.Buffers

/-! # The body at a point of an odd grid row -/

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- At a point of an odd grid row the body runs without fault: it multiplies by the first pair of buffers and quantises a chunk into the second. Every buffer that the branch reads alone is left as it was, and the others are left whole, with some contents. -/
theorem run2 (c : Dev nD) (i : grid0.Coords) (h1 : ¬ k0_cond1 i = 1#1) (h2 : k0_cond2 i = 1#1) (h3 : ¬ k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ (∃ f, pt c M6 f) ∗ (∃ f, pt c M7 f) ∗ (∃ f, pt c M8 f) ∗ pt c M9 f9 ∗ (∃ f, pt c M10 f) ∗ pt c M11 f11 ∗ (∃ f, pt c M12 f)) -∗ Q ⟨⟩))
        ⊢ wp frame (wpE (defs₀ (F := F)) Variants.none c none) E (cc0_smoothquant_linear i M2 w2 M3 w3 M4 w4 M5 w5 M6 w6 M7 w7 M8 w8 M9 w9 M10 w10 M11 w11 M12 w12) Q := by
  intro E Q
  iintro ⟨H2, H3, H4, H5, H6, H7, H8, H9, H10, H11, H12, Hk⟩
  sl_exec_parts
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [H10]; · iexists _; iexact H10
  isplitl [H11]; · iexact H11
  iexists _; iexact H12

end Cert.Proof.Kernel

end
-- ==== Proof.Kernel.Run3.lean ====
module

public import proofs.«01_k».proof.Proof.Gen.Kernel.Skeleton
public import proofs.«01_k».proof.Proof.Gen.Kernel.Frame
public import Idealize.ShloMosaic.Lib.Tactic
public import proofs.«01_k».proof.Proof.Kernel.Buffers

/-! # The body at a point of a later even grid row -/

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- At a point of a later even grid row the body runs without fault: it multiplies by the second pair of buffers and quantises a chunk into the first. Every buffer that the branch reads alone is left as it was, and the others are left whole, with some contents. -/
theorem run3 (c : Dev nD) (i : grid0.Coords) (h1 : ¬ k0_cond1 i = 1#1) (h2 : ¬ k0_cond2 i = 1#1) (h3 : k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ (∃ f, pt c M6 f) ∗ (∃ f, pt c M7 f) ∗ (∃ f, pt c M8 f) ∗ (∃ f, pt c M9 f) ∗ pt c M10 f10 ∗ (∃ f, pt c M11 f) ∗ pt c M12 f12) -∗ Q ⟨⟩))
        ⊢ wp frame (wpE (defs₀ (F := F)) Variants.none c none) E (cc0_smoothquant_linear i M2 w2 M3 w3 M4 w4 M5 w5 M6 w6 M7 w7 M8 w8 M9 w9 M10 w10 M11 w11 M12 w12) Q := by
  intro E Q
  iintro ⟨H2, H3, H4, H5, H6, H7, H8, H9, H10, H11, H12, Hk⟩
  sl_exec_parts
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexact H10
  isplitl [H11]; · iexists _; iexact H11
  iexact H12

end Cert.Proof.Kernel

end
-- ==== Proof.Kernel.Frame.lean ====
module

public import proofs.«01_k».proof.Proof.Kernel.Run1
public import proofs.«01_k».proof.Proof.Kernel.Run2
public import proofs.«01_k».proof.Proof.Kernel.Run3
public import Idealize.ShloMosaic.Lib.Claim

/-! # The kernel's frame

Every run of the kernel terminates without a fault, leaves its four arguments as they were and every semaphore counter
at zero. Nothing is said of what the body leaves in its buffers: each grid point takes all of them at some contents and
gives them back at some contents. -/

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- At every grid point exactly one of the three branches runs. -/
theorem conds_val (n : Fin 25) (i : grid0.Coords) (h : i 0 = n) :
    (k0_cond1 i = 1#1 ∧ ¬ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1) := by
  unfold k0_cond1 k0_cond2 k0_cond3
  rw [h]
  clear h
  revert n
  decide

/-- Exactly one of the body's three conditions holds. -/
theorem conds (i : grid0.Coords) :
    (k0_cond1 i = 1#1 ∧ ¬ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1) := conds_val (i 0) i rfl

/-- The body at any grid point: from all its buffers at some contents to all of them at some contents. -/
theorem body_any (c : Dev nD) (i : grid0.Coords) (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)
    (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
        ∗ (iprop((∃ f, pt c M2 f) ∗ (∃ f, pt c M3 f) ∗ (∃ f, pt c M4 f) ∗ (∃ f, pt c M5 f) ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f)) -∗ Q ⟨⟩))
      ⊢ wp frame (wpE (defs₀ (F := F)) Variants.none c none) E (cc0_smoothquant_linear i M2 w2 M3 w3 M4 w4 M5 w5 M6 w6 M7 w7 M8 w8 M9 w9 M10 w10 M11 w11 M12 w12) Q := by
  rcases conds i with ⟨h1, h2, h3⟩ | ⟨h1, h2, h3⟩ | ⟨h1, h2, h3⟩
  · refine triple_restated (run1 c i h1 h2 h3 M2 w2 M3 w3 M4 w4 M5 w5 M6 w6 M7 w7 M8 w8 M9 w9 M10 w10 M11 w11 M12 w12 f2 f3 f4 f5 f6 f7 f8 f9 f10 f11 f12 E Q) rfl ?_ fun _ => .rfl
    iintro ⟨H2, H3, H4, H5, H6, H7, H8, H9, H10, H11, H12, Hk⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexact H7
    isplitl [H8]; · iexact H8
    isplitl [H9]; · iexact H9
    isplitl [H10]; · iexists _; iexact H10
    isplitl [H11]; · iexact H11
    iexists _; iexact H12
  · refine triple_restated (run2 c i h1 h2 h3 M2 w2 M3 w3 M4 w4 M5 w5 M6 w6 M7 w7 M8 w8 M9 w9 M10 w10 M11 w11 M12 w12 f2 f3 f4 f5 f6 f7 f8 f9 f10 f11 f12 E Q) rfl ?_ fun _ => .rfl
    iintro ⟨H2, H3, H4, H5, H6, H7, H8, H9, H10, H11, H12, Hk⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]; · iexists _; iexact H2
    isplitl [H3]; · iexists _; iexact H3
    isplitl [H4]; · iexists _; iexact H4
    isplitl [H5]; · iexists _; iexact H5
    isplitl [H6]; · iexact H6
    isplitl [H7]; · iexact H7
    isplitl [H8]; · iexact H8
    isplitl [H9]; · iexists _; iexact H9
    isplitl [H10]; · iexact H10
    isplitl [H11]; · iexists _; iexact H11
    iexact H12
  · refine triple_restated (run3 c i h1 h2 h3 M2 w2 M3 w3 M4 w4 M5 w5 M6 w6 M7 w7 M8 w8 M9 w9 M10 w10 M11 w11 M12 w12 f2 f3 f4 f5 f6 f7 f8 f9 f10 f11 f12 E Q) rfl ?_ fun _ => .rfl
    iintro ⟨H2, H3, H4, H5, H6, H7, H8, H9, H10, H11, H12, Hk⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]; · iexists _; iexact H2
    isplitl [H3]; · iexists _; iexact H3
    isplitl [H4]; · iexists _; iexact H4
    isplitl [H5]; · iexists _; iexact H5
    isplitl [H6]; · iexact H6
    isplitl [H7]; · iexact H7
    isplitl [H8]; · iexact H8
    isplitl [H9]; · iexact H9
    isplitl [H10]; · iexists _; iexact H10
    isplitl [H11]; · iexact H11
    iexists _; iexact H12

variable (m : (ℓ : Loc nD τ sig) → Buf (Elt F) ℓ) (ρ : Dev nD → PrngReg)

/-- The proof data: the arrays as the region finds them, nothing tracked of the staging buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- Each window's array starts as the region finds it. -/
theorem A_eq (c : Dev nD) (w : Fin cfg0.W) : (dats m 0 c).A w = V m c (Pipeline.arrRef spec0 w) := by dsimp only [dats]

/-- The body that the pipeline calls at a point is the kernel's body on that point's staging buffers. -/
theorem defs₀_row (t : Fin cfg0.N) : defs₀ (F := F) .tc cfg0.body (cfg0.bodyArgs t (cfg0.slots t)) = bodyAt0 t := by
  unfold defs₀; rw [Defs.onTc_tc]

/-- The window's buffer at some contents, as the staging buffer whole. -/
theorem owns_some (c : Dev nD) {sp : Space} {S : Shape} {e : EltTy} (M : Memref sig .tc sp S e) (h : M.IsWhole) :
    (iprop(∃ X, owns (c : Thread nD τ) M fullShare X) : sProp 𝕄) = iprop(∃ f : Bf (F := F) c M, pt c M f) :=
  Memref.IsWhole.exists_owns_eq h fullShare

set_option maxHeartbeats 1600000 in
/-- One grid point: the invariant and the staging buffers at some contents, and again afterwards. -/
theorem sound_body (c : Dev nD) (t : Fin cfg0.N) :
    (iprop(Pipeline.ΦA spec0 c ∗ (dats (F := F) m 0 c).owesAt () t.castSucc
        ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X)) : sProp 𝕄)
      ⊢ wp frame (wpE (defs₀ (F := F)) Variants.none c none) Set.univ (bodyAt0 t) fun _ => iprop(Pipeline.ΦA spec0 c ∗ (dats (F := F) m 0 c).owesAt () t.castSucc
        ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X)) := by
  unfold Pipeline.ΦA
  rw [scopedRest0_eq]
  rw [owns_some c (st0_0 t) (hstage0_0 ((cfg0.slots t 0).cast nbuf0_0)), owns_some c (st0_1 t) (hstage0_1 ((cfg0.slots t 1).cast nbuf0_1)),
    owns_some c (st0_2 t) (hstage0_2 ((cfg0.slots t 2).cast nbuf0_2)), owns_some c (st0_3 t) (hstage0_3 ((cfg0.slots t 3).cast nbuf0_3)),
    owns_some c (st0_4 t) (hstage0_4 ((cfg0.slots t 4).cast nbuf0_4)), owns_some c (st0_5 t) (hstage0_5 ((cfg0.slots t 5).cast nbuf0_5)),
    owns_some c (st0_6 t) (hstage0_6 ((cfg0.slots t 6).cast nbuf0_6))]
  iintro ⟨⟨⟨⟨%f9, H9⟩, ⟨%f10, H10⟩, ⟨%f11, H11⟩, ⟨%f12, H12⟩⟩, Hg⟩, Howes,
    ⟨%f2, H2⟩, ⟨%f3, H3⟩, ⟨%f4, H4⟩, ⟨%f5, H5⟩, ⟨%f6, H6⟩, ⟨%f7, H7⟩, ⟨%f8, H8⟩⟩
  iapply (body_any c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    f2 f3 f4 f5 f6 f7 f8 f9 f10 f11 f12 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  isplitl [H9 H10 H11 H12 Hg]
  · isplitr [Hg]
    · isplitl [H9]; · iexact H9
      isplitl [H10]; · iexact H10
      isplitl [H11]; · iexact H11
      iexact H12
    · iexact Hg
  isplitl [Howes]; · iexact Howes
  isplitl [H2]; · iexact H2
  isplitl [H3]; · iexact H3
  isplitl [H4]; · iexact H4
  isplitl [H5]; · iexact H5
  isplitl [H6]; · iexact H6
  isplitl [H7]; · iexact H7
  iexact H8

/-- The body obligation with every window's contents forgotten. -/
theorem body_obligation (c : Dev nD) :
    BodyObligationLoose (dats (F := F) m 0 c) (defs₀ (F := F)) Variants.none () Set.univ (fun _ => true) := fun t => by
  rw [bigSep_W0, defs₀_row]
  exact triple_restated (sound_body m c t) rfl .rfl fun _ => .rfl

/-- The results of the lines after the region. -/
abbrev T : Finset (Ref sig .tc) := {main_v4, main_v5, main_v6}

/-- The lines after the region write those only. -/
theorem sfx_writes : ∀ ops ∈ ([hostOps1] : List (List (HloOp τ sig (Elt F)))), ∀ op ∈ ops, ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.reshape_writes, Finset.mem_singleton] at hb
    have := Proc.devRef_injective _ hb
    subst this
    decide

set_option backward.isDefEq.respectTransparency.types false in
set_option maxHeartbeats 800000 in
/-- Every run of the kernel ends, with every semaphore counter at zero and with each buffer that no window writes as the region leaves it. -/
theorem run_main : θ_run defs (onTc (τ := τ) (main (F := F))) (s₀ m ρ) (fun r =>
    Pipeline.RDat.FramePostR cfg0 (fun c => (dats m 0 c).toRForget (fun _ => true)) T (fun c b => V0 m c (Proc.devRef .tc b)) r ∧ r.2.sem = fun _ => 0) :=
  Pipeline.θ_run_frame_around_T_forget (Q' := _) cfgs (dats m) (0 : Fin 1) launch0 defs₀ Variants.none (fun _ => true) T m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame claim, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      ((h.1 c).2 main_arg0 (Finset.mem_sdiff.2 ⟨Pipeline.mem_restRefs_of main_arg0 (by decide) (by decide), by decide⟩)).trans (V_main_arg0 m c),
      ((h.1 c).2 main_arg1 (Finset.mem_sdiff.2 ⟨Pipeline.mem_restRefs_of main_arg1 (by decide) (by decide), by decide⟩)).trans (V_main_arg1 m c),
      (Pipeline.RDat.FramePostR.arr_in h.1 c 2 rfl).trans (V_main_arg2 m c),
      ((h.1 c).2 main_arg3 (Finset.mem_sdiff.2 ⟨Pipeline.mem_restRefs_of main_arg3 (by decide) (by decide), by decide⟩)).trans (V_main_arg3 m c)⟩, h.2⟩)
    (run_main m ρ)

end Cert.Proof.Kernel

end
-- ==== Proof.KernelIdeal.Chunk.lean ====
module

public import proofs.«01_k».proof.Proof.Gen.KernelIdeal.Frame
public import Idealize.ShloMosaic.Lib.Tactic

/-! # What the kernel computes of one chunk of 128 rows

A chunk is quantised in four groups of 32 rows, each swept in 64 slices of 128 columns. The definitions here
state the groups' running maxima, exponents, scales and codes as the kernel's vector operations, once for every group and slice. -/

@[expose] public section

set_option maxRecDepth 16384

noncomputable section

namespace Cert.Proof.KernelIdeal

open Cert.KernelIdeal Cert.KernelIdeal.Gen

open Idealize.ShloMosaic

variable {F : FTy → Type} [FloatOps F]

/-- The rectangle of rows `32 g` to `32 g + 31` and columns `128 k` to `128 k + 127` of a chunk. -/
abbrev rowRect (g : Fin 4) (k : Fin 64) : Rect S128x8192 :=
  Rect.unit (s := S128x8192) ![32 * g.1, 128 * k.1] S32x128.size (by
    intro a; fin_cases a
    · show 32 * g.1 + 32 ≤ 128; omega
    · show 128 * k.1 + 128 ≤ 8192; omega)

/-- The rectangle of columns `128 k` to `128 k + 127` of the smoothing row. -/
abbrev colRect (k : Fin 64) : Rect S1x8192 :=
  Rect.unit (s := S1x8192) ![0, 128 * k.1] S1x128.size (by
    intro a; fin_cases a
    · show 0 + 1 ≤ 1; omega
    · show 128 * k.1 + 128 ≤ 8192; omega)

section Chunk

variable (x : S128x8192.Idx → Elt F .bf16) (s : S1x8192.Idx → Elt F .f32)

/-- The smoothed values of group `g` at slice `k`. -/
def sm (g : Fin 4) (k : Fin 64) : FVec F S32x128 .f32 :=
  divf (extf .f32 (shapeCast S32x128 (fun j => x ((rowRect g k).toLoadRect.idx j)) shapeCasts_S32x128_S32x128) bitsLt_bf16_f32)
    (broadcastTo S32x128 (shapeCast S1x128 (fun j => s ((colRect k).toLoadRect.idx j)) shapeCasts_S1x128_S1x128) broadcasts_S1x128_S32x128)

/-- The running maximum of group `g` after slice `n`, lane by lane. -/
def mxUpTo (g : Fin 4) : (n : ℕ) → n < 64 → FVec F S32x128 .f32
  | 0, h => absf (sm x s g ⟨0, h⟩)
  | n + 1, h => maximumf (mxUpTo g n (Nat.lt_of_succ_lt h)) (absf (sm x s g ⟨n + 1, h⟩))

/-- Group `g`'s largest magnitude in each row. -/
def amaxV (g : Fin 4) : FVec F S32x1 .f32 :=
  shapeCast S32x1 (multiReduction .maximumf [1] S32 (mxUpTo x s g 63 (by decide)) 0xFF800000#32 reduces_S32x128_S32 (.inl rfl) rfl) shapeCasts_S32_S32x1

end Chunk

/-- The quotient of a largest magnitude. -/
def quotV (a : FVec F S32x1 .f32) : FVec F S32x1 .f32 := mulf a (broadcast S32x1 (Scalar.ofBits .f32 0x3B124925#32))

/-- One step of the exponent search. -/
def stepV (q : FVec F S32x1 .f32) (e : IVec S32x1 32) (b : BitVec 32) : IVec S32x1 32 :=
  select (cmpf .oge q (bitcastToFloat .f32 (shli (addi e (broadcast S32x1 b)) (broadcast S32x1 23#32)))) (addi e (broadcast S32x1 b)) e

/-- The exponent search, bit by bit. -/
def searchV (q : FVec F S32x1 .f32) : IVec S32x1 32 :=
  stepV q (stepV q (stepV q (stepV q (stepV q (stepV q (stepV q (stepV q (broadcast S32x1 0#32) 128#32) 64#32) 32#32) 16#32) 8#32) 4#32) 2#32) 1#32

/-- The kept exponents of rows of largest magnitude `a`. -/
def keptV (a : FVec F S32x1 .f32) : IVec S32x1 32 :=
  select (ori (ori (cmpi .eq (searchV (quotV a)) (broadcast S32x1 0#32)) (cmpi .eq (searchV (quotV a)) (broadcast S32x1 255#32)))
    (cmpf .oeq a (broadcast S32x1 (Scalar.ofBits .f32 0x00000000#32)))) (broadcast S32x1 126#32) (searchV (quotV a))

/-- The scales of kept exponents. -/
def scaleV (e : IVec S32x1 32) : FVec F S32x1 .f32 :=
  bitcastToFloat .f32 (shli (minsi (addi e (broadcast S32x1 1#32)) (broadcast S32x1 255#32)) (broadcast S32x1 23#32))

/-- The inverse scales of kept exponents. -/
def invV (e : IVec S32x1 32) : FVec F S32x1 .f32 :=
  bitcastToFloat .f32 (shli (maxsi (subi (broadcast S32x1 253#32) e) (broadcast S32x1 0#32)) (broadcast S32x1 23#32))

section Chunk

variable (x : S128x8192.Idx → Elt F .bf16) (s : S1x8192.Idx → Elt F .f32)

/-- The codes of group `g` at slice `k`. -/
def codeV (g : Fin 4) (k : Fin 64) : FVec F S32x128 .fp8e4m3 :=
  truncf .fp8e4m3 (minimumf (broadcast S32x128 (Scalar.ofBits .f32 0x43E00000#32)) (maximumf (broadcast S32x128 (Scalar.ofBits .f32 0xC3E00000#32))
    (mulf (sm x s g k) (broadcastTo S32x128 (shapeCast S32x1 (invV (F := F) (keptV (amaxV x s g))) shapeCasts_S32x1_S32x1) broadcasts_S32x1_S32x128)))) bitsLt_fp8e4m3_f32

/-- The stores of group `g`'s codes of the slices below `n` into the chunk's window, the last one first, before the stores `L`. -/
def winPieces (g : Fin 4) : (n : ℕ) → n ≤ 64 → List (View.Piece (Elt F) S128x8192 .fp8e4m3) → List (View.Piece (Elt F) S128x8192 .fp8e4m3)
  | 0, _, L => L
  | n + 1, h, L => ⟨rowRect g ⟨n, h⟩, codeV x s g ⟨n, h⟩⟩ :: winPieces g n (Nat.le_of_succ_le h) L

/-- All the stores into the chunk's window. -/
def winAll : List (View.Piece (Elt F) S128x8192 .fp8e4m3) :=
  winPieces x s 3 64 le_rfl (winPieces x s 2 64 le_rfl (winPieces x s 1 64 le_rfl (winPieces x s 0 64 le_rfl [])))

end Chunk

/-! ## The stores into the scratch buffers -/

/-- The row of the tile at which the sub-block `b` of the point's chunk begins, as the kernel computes it. -/
def rowAt (i : grid0.Coords) (b : BitVec 32) : ℕ :=
  (Scalar.indexCast (Scalar.addi (Scalar.muli (Scalar.minsi (BitVec.ofNat 32 (i 1).val) 7#32) 128#32) b)).toNat

/-- The row of the tile at which the point's chunk begins, as the kernel computes it. -/
def rowBase (i : grid0.Coords) : ℕ :=
  (Scalar.indexCast (Scalar.muli (Scalar.minsi (BitVec.ofNat 32 (i 1).val) 7#32) 128#32)).toNat

/-- The row number that the kernel computes for group `g` of column `j`, evaluated. -/
theorem rowAt_val (j : Fin 11) (g : Fin 4) :
    (Scalar.indexCast (Scalar.addi (Scalar.muli (Scalar.minsi (BitVec.ofNat 32 j.val) 7#32) 128#32) (BitVec.ofNat 32 (32 * g.1)))).toNat
      = 128 * min j.1 7 + 32 * g.1 := by
  revert j g; decide

/-- Group `g` of the point's chunk starts at this row of the tile. -/
theorem rowAt_eq (i : grid0.Coords) (g : Fin 4) : rowAt i (BitVec.ofNat 32 (32 * g.1)) = 128 * min (i 1).1 7 + 32 * g.1 := rowAt_val (i 1) g

/-- The row number that the kernel computes for the chunk of column `j`, evaluated. -/
theorem rowBase_val (j : Fin 11) : (Scalar.indexCast (Scalar.muli (Scalar.minsi (BitVec.ofNat 32 j.val) 7#32) 128#32)).toNat = 128 * min j.1 7 := by
  revert j; decide

/-- The point's chunk starts at this row of the tile. -/
theorem rowBase_eq (i : grid0.Coords) : rowBase i = 128 * min (i 1).1 7 := rowBase_val (i 1)

/-- The rectangle of a tile's codes that group `g`'s slice `k` of the point's chunk occupies. -/
abbrev scrRect (i : grid0.Coords) (g : Fin 4) (k : Fin 64) : Rect S1024x8192 :=
  Rect.unit (s := S1024x8192) ![rowAt i (BitVec.ofNat 32 (32 * g.1)), 128 * k.1] S32x128.size (by
    intro a; fin_cases a
    · show rowAt i (BitVec.ofNat 32 (32 * g.1)) + 32 ≤ 1024; rw [rowAt_eq]; omega
    · show 128 * k.1 + 128 ≤ 8192; omega)

/-- The rectangle of a tile's scales that group `g` of the point's chunk occupies. -/
abbrev sclRect (i : grid0.Coords) (g : Fin 4) : Rect S1024x128 :=
  Rect.unit (s := S1024x128) ![rowAt i (BitVec.ofNat 32 (32 * g.1)), 0] S32x128.size (by
    intro a; fin_cases a
    · show rowAt i (BitVec.ofNat 32 (32 * g.1)) + 32 ≤ 1024; rw [rowAt_eq]; omega
    · show 0 + 128 ≤ 128; omega)

/-- The rectangle of a tile's scales that the point's chunk occupies. -/
abbrev sclBlock (i : grid0.Coords) : Rect S1024x128 :=
  Rect.unit (s := S1024x128) ![rowBase i, 0] S128x128.size (by
    intro a; fin_cases a
    · show rowBase i + 128 ≤ 1024; rw [rowBase_eq]; omega
    · show 0 + 128 ≤ 128; omega)

section Chunk

variable (x : S128x8192.Idx → Elt F .bf16) (s : S1x8192.Idx → Elt F .f32) (i : grid0.Coords)

/-- The stores of group `g`'s codes of the slices below `n` into the tile's codes, the last one first, before the stores `L`. -/
def scrPieces (g : Fin 4) : (n : ℕ) → n ≤ 64 → List (View.Piece (Elt F) S1024x8192 .fp8e4m3) → List (View.Piece (Elt F) S1024x8192 .fp8e4m3)
  | 0, _, L => L
  | n + 1, h, L => ⟨scrRect i g ⟨n, h⟩, shapeCast S32x128 (codeV x s g ⟨n, h⟩) shapeCasts_S32x128_S32x128⟩ :: scrPieces g n (Nat.le_of_succ_le h) L

/-- All the stores into the tile's codes. -/
def scrAll : List (View.Piece (Elt F) S1024x8192 .fp8e4m3) :=
  scrPieces x s i 3 64 le_rfl (scrPieces x s i 2 64 le_rfl (scrPieces x s i 1 64 le_rfl (scrPieces x s i 0 64 le_rfl [])))

/-- The store of group `g`'s scales into the tile's scales, the same in all 128 lanes. -/
def sclPiece (g : Fin 4) : View.Piece (Elt F) S1024x128 .f32 :=
  ⟨sclRect i g, shapeCast S32x128 (broadcastTo S32x128 (shapeCast S32x1 (scaleV (F := F) (keptV (amaxV x s g))) shapeCasts_S32x1_S32x1) broadcasts_S32x1_S32x128)
    shapeCasts_S32x128_S32x128⟩

/-- All the stores into the tile's scales. -/
def sclAll : List (View.Piece (Elt F) S1024x128 .f32) := [sclPiece x s i 3, sclPiece x s i 2, sclPiece x s i 1, sclPiece x s i 0]

end Chunk

/-- The chunk's scales as one row, from their copy in 128 lanes. -/
def xsV (v : Vec F S128x128 .f32) : FVec F S1x1x128 .f32 :=
  shapeCast S1x1x128 (extractStridedSlice S1x128 ![0, 0] (transpose S128x128 [1, 0] v transposes_S128x128_p1_0_S128x128) slices_S128x128_o0_0_S1x128)
    shapeCasts_S1x128_S1x1x128

/-- The store of the chunk's scales into their window. -/
def xsPieces (v : Vec F S128x128 .f32) : List (View.Piece (Elt F) S1x1x128 .f32) :=
  [⟨Rect.unit (s := S1x1x128) ![0, 0, 0] S1x1x128.size inb_S1x1x128_S1x1x128_0_0_0, xsV v⟩]

/-! ## The stores of a tile of results -/

section Tile

variable (a : S1024x8192.Idx → Elt F .fp8e4m3) (w : S1024x8192.Idx → Elt F .fp8e4m3) (sc : S1024x128.Idx → Elt F .f32) (ws : S1x1024.Idx → Elt F .f32)

/-- The rectangle of the 256 columns number `n` of a tile of results. -/
abbrev yRect (n : Fin 4) : Rect S1024x1024 :=
  Rect.unit (s := S1024x1024) ![0, 256 * n.1] S1024x256.size (by
    intro a; fin_cases a
    · show 0 + 1024 ≤ 1024; omega
    · show 256 * n.1 + 256 ≤ 1024; omega)

/-- The rectangle of the 256 weight rows number `n`. -/
abbrev wRect (n : Fin 4) : Rect S1024x8192 :=
  Rect.unit (s := S1024x8192) ![256 * n.1, 0] S256x8192.size (by
    intro a; fin_cases a
    · show 256 * n.1 + 256 ≤ 1024; omega
    · show 0 + 8192 ≤ 8192; omega)

/-- The rectangle of the 256 weight scales number `n`. -/
abbrev wsRect (n : Fin 4) : Rect S1x1024 :=
  Rect.unit (s := S1x1024) ![0, 256 * n.1] S1x256.size (by
    intro a; fin_cases a
    · show 0 + 1 ≤ 1; omega
    · show 256 * n.1 + 256 ≤ 1024; omega)

/-- The results in the 256 columns number `n`: the product of the codes, scaled by rows and by columns. -/
def yV (n : Fin 4) : FVec F S1024x256 .bf16 :=
  truncf .bf16 (mulf (mulf
    (matmul dot_S1024x8192_S256x8192_S1024x256_1_1_0_0_n_n none
      (fun j => a ((Rect.unit (s := S1024x8192) ![0, 0] S1024x8192.size inb_S1024x8192_S1024x8192_0_0).toLoadRect.idx j) : Vec F S1024x8192 .fp8e4m3)
      (fun j => w ((wRect n).toLoadRect.idx j) : Vec F S256x8192 .fp8e4m3) (constant S1024x256 .f32 0x00000000#32))
    (concatenate S1024x256 1
      [⟨S1024x128, (fun j => sc ((Rect.unit (s := S1024x128) ![0, 0] S1024x128.size inb_S1024x128_S1024x128_0_0).toLoadRect.idx j) : Vec F S1024x128 .f32)⟩,
       ⟨S1024x128, (fun j => sc ((Rect.unit (s := S1024x128) ![0, 0] S1024x128.size inb_S1024x128_S1024x128_0_0).toLoadRect.idx j) : Vec F S1024x128 .f32)⟩]
      concatenates_S1024x128_S1024x128_S1024x256_d1))
    (broadcastTo S1024x256 (shapeCast S1x256 (fun j => ws ((wsRect n).toLoadRect.idx j) : Vec F S1x256 .f32) shapeCasts_S1x256_S1x256) broadcasts_S1x256_S1024x256))
    bitsLt_bf16_f32

/-- The store of the results in the 256 columns number `n`. -/
def yPiece (n : Fin 4) : View.Piece (Elt F) S1024x1024 .bf16 := ⟨yRect n, yV a w sc ws n⟩

/-- All the stores of a tile of results. -/
def yAll : List (View.Piece (Elt F) S1024x1024 .bf16) := [yPiece a w sc ws 3, yPiece a w sc ws 2, yPiece a w sc ws 1, yPiece a w sc ws 0]

end Tile

end Cert.Proof.KernelIdeal

end
-- ==== Proof.Math.PowerScale.lean ====
module

public import Idealize.ShloMosaic.PureOps.Vector
public import Idealize.ShloMosaic.PureOps.Ideal
public import Idealize.ShloMosaic.PureOps.Ideal.Laws

/-! # The power-of-two scale of one row

The kernel finds the exponent of a row's quotient by a binary search over biased exponents; the reference takes the
least power of two above the quotient. Over the extended reals both give one scale and one inverse. -/

@[expose] public section

noncomputable section

namespace Cert.Proof.Math

open Idealize.ShloMosaic

/-- The float whose biased exponent is the word `e` and whose fraction is zero. -/
def expFloat {F : FTy → Type} [FloatOps F] (e : BitVec 32) : F .f32 := FloatOps.ofBits .f32 (IntOp.shli .vector e 23#32)

/-- One step of the search: the bit `b` is added to the exponent `e` when the quotient `q` is at least the float of that exponent. -/
def searchStep {F : FTy → Type} [FloatOps F] (q : F .f32) (e b : BitVec 32) : BitVec 32 :=
  Scalar.select (FloatOps.cmpf .oge q (expFloat (IntOp.addi e b))) (IntOp.addi e b) e

/-- The eight steps of the search, from the bit 128 down to the bit 1. -/
def search {F : FTy → Type} [FloatOps F] (q : F .f32) : BitVec 32 :=
  searchStep q (searchStep q (searchStep q (searchStep q (searchStep q (searchStep q (searchStep q (searchStep q 0#32 128#32) 64#32) 32#32) 16#32) 8#32) 4#32) 2#32) 1#32

/-- The exponent that the kernel keeps for a row of largest magnitude `a` and quotient `q`: 126 (that of the scale 1) in the special cases. -/
def keptExp {F : FTy → Type} [FloatOps F] (a q : F .f32) : BitVec 32 :=
  Scalar.select (IntOp.ori (IntOp.ori (IntOp.cmpi .eq (search q) 0#32) (IntOp.cmpi .eq (search q) 255#32))
    (FloatOps.cmpf .oeq a (Scalar.ofBits .f32 0x00000000#32))) 126#32 (search q)

/-- The kernel's scale of a kept exponent. -/
def scaleOfExp {F : FTy → Type} [FloatOps F] (e : BitVec 32) : F .f32 := expFloat (IntOp.minsi (IntOp.addi e 1#32) 255#32)

/-- The kernel's inverse scale of a kept exponent. -/
def invOfExp {F : FTy → Type} [FloatOps F] (e : BitVec 32) : F .f32 := expFloat (IntOp.maxsi (IntOp.subi 253#32 e) 0#32)

/-- What the pattern of biased exponent `n` and fraction zero denotes. -/
def P (n : ℕ) : EReal := if n = 0 then 0 else if n = 255 then ⊤ else (((2 : ℝ) ^ ((n : ℤ) - 127) : ℝ) : EReal)

/-- A pattern with sign 0, exponent `n` and fraction 0 denotes `P n`. -/
theorem ieee_of_fields (b : BitVec 32) (n : ℕ) (h1 : (b.extractLsb' 31 1 == 1#1) = false) (h2 : (b.extractLsb' 23 8).toNat = n)
    (h3 : (b.extractLsb' 0 23).toNat = 0) : Ideal.ieee 8 23 b = P n := by
  have e1 : (b.extractLsb' (8 + 23) 1 == 1#1) = false := h1
  unfold Ideal.ieee P
  simp only [e1, h2, h3]
  by_cases h0 : n = 0
  · subst h0; simp
  by_cases h5 : n = 255
  · subst h5; simp
  rw [if_neg (by simpa using h5), if_neg h0, if_neg h0, if_neg h5]
  congr 1
  have : ((n : ℤ) - 127) = 23 + ((n : ℤ) - (2 ^ (8 - 1) - 1) - (23 : ℕ)) := by norm_num
  rw [this, zpow_add₀ (by norm_num)]
  norm_num

/-- The fields of an exponent shifted into place. -/
theorem fields_of_exp : ∀ k : Fin 256, ((BitVec.ofNat 32 k.1 <<< (23#32 : BitVec 32)).extractLsb' 31 1 == 1#1) = false
      ∧ ((BitVec.ofNat 32 k.1 <<< (23#32 : BitVec 32)).extractLsb' 23 8).toNat = k.1
      ∧ ((BitVec.ofNat 32 k.1 <<< (23#32 : BitVec 32)).extractLsb' 0 23).toNat = 0 := by decide +kernel

/-- The float of a biased exponent denotes `P` of it. -/
theorem expFloat_eq (n : ℕ) (h : n ≤ 255) : expFloat (F := Ideal) (BitVec.ofNat 32 n) = P n := by
  have hs : IntOp.shli .vector (BitVec.ofNat 32 n) 23#32 = (BitVec.ofNat 32 n) <<< (23#32) := by
    unfold IntOp.shli; rw [if_pos (by decide)]
  obtain ⟨h1, h2, h3⟩ := fields_of_exp ⟨n, by omega⟩
  unfold expFloat
  rw [hs]
  exact ieee_of_fields _ n h1 h2 h3

/-- `P` is positive past exponent 0. -/
theorem P_pos {n : ℕ} (h : n ≠ 0) : 0 < P n := by
  unfold P; rw [if_neg h]; split
  · exact EReal.zero_lt_top
  · exact EReal.coe_pos.2 (by positivity)

/-- `P` is monotone. -/
theorem P_mono {m n : ℕ} (h : m ≤ n) (hn : n ≤ 255) : P m ≤ P n := by
  by_cases h0 : m = 0
  · subst h0
    by_cases hz : n = 0
    · subst hz; exact le_rfl
    · have := P_pos hz; simpa [P] using this.le
  by_cases h5 : n = 255
  · subst h5; simp [P]
  unfold P
  rw [if_neg h0, if_neg (by omega), if_neg (by omega), if_neg h5]
  exact EReal.coe_le_coe_iff.2 (zpow_le_zpow_right₀ (by norm_num) (by omega))

/-- `P` is finite below exponent 255. -/
theorem P_lt_top {n : ℕ} (h : n < 255) : P n < ⊤ := by
  unfold P; split
  · exact EReal.zero_lt_top
  · rw [if_neg (by omega)]; exact EReal.coe_lt_top _

/-- Exponent 127 is the number 1. -/
theorem P_one : P 127 = 1 := by simp [P]

/-- One step keeps the exponent the greatest one, among those that the remaining bits can reach, whose float is at most `q`. -/
theorem searchStep_spec (q : EReal) (n b : ℕ) (hle : n + 2 * b ≤ 256) (hb : 0 < b) (lo : n = 0 ∨ P n ≤ q)
    (hi : n + 2 * b = 256 ∨ q < P (n + 2 * b)) :
    ∃ n', searchStep (F := Ideal) q (BitVec.ofNat 32 n) (BitVec.ofNat 32 b) = BitVec.ofNat 32 n' ∧ n' + b ≤ 256
      ∧ (n' = 0 ∨ P n' ≤ q) ∧ (n' + b = 256 ∨ q < P (n' + b)) := by
  have ha : IntOp.addi (BitVec.ofNat 32 n) (BitVec.ofNat 32 b) = BitVec.ofNat 32 (n + b) := by
    unfold IntOp.addi; exact (BitVec.ofNat_add n b).symm
  unfold searchStep
  rw [ha, expFloat_eq _ (by omega)]
  show ∃ n', Scalar.select (Ideal.cmp .oge q (P (n + b))) _ _ = _ ∧ _
  unfold Ideal.cmp Scalar.select
  by_cases hq : P (n + b) ≤ q
  · refine ⟨n + b, by simp [hq], by omega, .inr hq, ?_⟩
    rcases hi with h | h
    · left; omega
    · right; rwa [show n + b + b = n + 2 * b by omega]
  · exact ⟨n, by simp [hq], by omega, lo, .inr (not_le.1 hq)⟩

/-- The search finds the greatest exponent whose float is at most `q` (0 if there is none). -/
theorem search_spec (q : EReal) : ∃ n, search (F := Ideal) q = BitVec.ofNat 32 n ∧ n ≤ 255 ∧ (n = 0 ∨ P n ≤ q)
    ∧ (n = 255 ∨ q < P (n + 1)) := by
  obtain ⟨n1, e1, k1, l1, u1⟩ := searchStep_spec q 0 128 (by omega) (by omega) (.inl rfl) (.inl rfl)
  obtain ⟨n2, e2, k2, l2, u2⟩ := searchStep_spec q n1 64 (by omega) (by omega) l1 u1
  obtain ⟨n3, e3, k3, l3, u3⟩ := searchStep_spec q n2 32 (by omega) (by omega) l2 u2
  obtain ⟨n4, e4, k4, l4, u4⟩ := searchStep_spec q n3 16 (by omega) (by omega) l3 u3
  obtain ⟨n5, e5, k5, l5, u5⟩ := searchStep_spec q n4 8 (by omega) (by omega) l4 u4
  obtain ⟨n6, e6, k6, l6, u6⟩ := searchStep_spec q n5 4 (by omega) (by omega) l5 u5
  obtain ⟨n7, e7, k7, l7, u7⟩ := searchStep_spec q n6 2 (by omega) (by omega) l6 u6
  obtain ⟨n8, e8, k8, l8, u8⟩ := searchStep_spec q n7 1 (by omega) (by omega) l7 u7
  refine ⟨n8, ?_, by omega, l8, ?_⟩
  · unfold search
    rw [← e8, ← e7, ← e6, ← e5, ← e4, ← e3, ← e2, ← e1]
  · rcases u8 with h | h
    · left; omega
    · exact .inr h

/-- The least power of two above `q`, among those from `2 ^ -125` to `2 ^ 127`; the top when there is none. -/
def leastAbove (q : EReal) : EReal := (Finset.univ : Finset (Fin 253)).fold min ⊤ fun j => if q < P (j.1 + 2) then P (j.1 + 2) else ⊤

/-- The scale of a quotient `q`: 1 where it is below the least normal or infinite, else the least power of two above it. -/
def scaleR (q : EReal) : EReal := if q < P 1 ∨ q = ⊤ then 1 else leastAbove q

/-- The inverse of a scale, zero where it is below the least normal. -/
def invR (s : EReal) : EReal := if Ideal.div 1 s < P 1 then 0 else Ideal.div 1 s

/-- Between two neighbouring powers the least power above is the upper one. -/
theorem leastAbove_eq {q : EReal} {n : ℕ} (h1 : 1 ≤ n) (h2 : n ≤ 254) (lo : P n ≤ q) (hi : q < P (n + 1)) :
    leastAbove q = P (n + 1) := by
  unfold leastAbove
  apply le_antisymm
  · by_cases h : n = 254
    · subst h; simp [P]
    · rw [Finset.fold_min_le]
      right
      refine ⟨⟨n - 1, by omega⟩, Finset.mem_univ _, ?_⟩
      have : n - 1 + 2 = n + 1 := by omega
      simp only [this]
      rw [if_pos hi]
  · rw [Finset.le_fold_min]
    refine ⟨le_top, fun j _ => ?_⟩
    split
    · rename_i hj
      refine P_mono ?_ (by omega)
      by_contra hc
      exact absurd (lt_of_le_of_lt lo hj) (not_lt.2 (P_mono (by omega) (by omega)))
    · exact le_top

/-- The exponent that the kernel keeps: 126 where the reference's scale is 1, and else one below the exponent of the reference's scale. -/
theorem keptExp_eq {a q : EReal} (κ : EReal) (hq : q = a * κ) : ∃ n, keptExp (F := Ideal) a q = BitVec.ofNat 32 n ∧
    ((n = 126 ∧ scaleR q = 1) ∨ (1 ≤ n ∧ n ≤ 254 ∧ scaleR q = P (n + 1))) := by
  obtain ⟨n, e, hn, lo, hi⟩ := search_spec q
  have hsel : keptExp (F := Ideal) a q = if n = 0 ∨ n = 255 ∨ a = 0 then 126#32 else BitVec.ofNat 32 n := by
    unfold keptExp
    rw [e]
    have hz : (Scalar.ofBits .f32 0x00000000#32 : Ideal .f32) = 0 := Ideal.ofBits_zero_f32
    rw [hz]
    show Scalar.select (IntOp.ori _ (Ideal.cmp .oeq a 0)) _ _ = _
    have h0 : IntOp.cmpi .eq (BitVec.ofNat 32 n) 0#32 = BitVec.ofBool (decide (n = 0)) := by
      have : ∀ k : Fin 256, IntOp.cmpi .eq (BitVec.ofNat 32 k.1) 0#32 = BitVec.ofBool (decide (k.1 = 0)) := by decide +kernel
      exact this ⟨n, by omega⟩
    have h5 : IntOp.cmpi .eq (BitVec.ofNat 32 n) 255#32 = BitVec.ofBool (decide (n = 255)) := by
      have : ∀ k : Fin 256, IntOp.cmpi .eq (BitVec.ofNat 32 k.1) 255#32 = BitVec.ofBool (decide (k.1 = 255)) := by decide +kernel
      exact this ⟨n, by omega⟩
    rw [h0, h5]
    unfold Ideal.cmp Scalar.select IntOp.ori
    by_cases c0 : n = 0 <;> by_cases c5 : n = 255 <;> by_cases ca : a = 0 <;> simp [c0, c5, ca]
  by_cases c0 : n = 0
  · refine ⟨126, by rw [hsel, if_pos (.inl c0)], .inl ⟨rfl, ?_⟩⟩
    subst c0
    have : q < P 1 := hi.resolve_left (by omega)
    unfold scaleR; rw [if_pos (.inl this)]
  have lo' := lo.resolve_left c0
  by_cases c5 : n = 255
  · refine ⟨126, by rw [hsel, if_pos (.inr (.inl c5))], .inl ⟨rfl, ?_⟩⟩
    subst c5
    have : q = ⊤ := top_le_iff.1 (by simpa [P] using lo')
    unfold scaleR; rw [if_pos (.inr this)]
  by_cases ca : a = 0
  · exfalso
    subst ca
    rw [zero_mul] at hq
    exact absurd lo' (not_le.2 (hq ▸ P_pos c0))
  refine ⟨n, by rw [hsel, if_neg (by tauto)], .inr ⟨by omega, by omega, ?_⟩⟩
  have hi' := hi.resolve_left c5
  have h1 : ¬ q < P 1 := not_lt.2 ((P_mono (by omega) (by omega)).trans lo')
  unfold scaleR
  rw [if_neg (by rintro (h | h); exacts [h1 h, absurd (h ▸ hi') (not_lt.2 le_top)])]
  exact leastAbove_eq (by omega) (by omega) lo' hi'

/-- The kernel's scale is the reference's. -/
theorem scaleOfExp_keptExp (a κ : EReal) : scaleOfExp (F := Ideal) (keptExp (F := Ideal) a (a * κ)) = scaleR (a * κ) := by
  obtain ⟨n, e, h⟩ := keptExp_eq κ (rfl : a * κ = a * κ)
  have hall : ∀ k : Fin 255, IntOp.minsi (IntOp.addi (BitVec.ofNat 32 k.1) 1#32) 255#32 = BitVec.ofNat 32 (k.1 + 1) := by decide +kernel
  rw [e]; unfold scaleOfExp
  rcases h with ⟨rfl, h⟩ | ⟨h1, h2, h⟩
  · rw [hall ⟨126, by omega⟩, expFloat_eq _ (by norm_num), h]; exact P_one
  · rw [hall ⟨n, by omega⟩, expFloat_eq _ (by omega), h]

/-- The kernel's inverse scale is the reference's. -/
theorem invOfExp_keptExp (a κ : EReal) : invOfExp (F := Ideal) (keptExp (F := Ideal) a (a * κ)) = invR (scaleR (a * κ)) := by
  obtain ⟨n, e, h⟩ := keptExp_eq κ (rfl : a * κ = a * κ)
  have hall : ∀ k : Fin 255, IntOp.maxsi (IntOp.subi 253#32 (BitVec.ofNat 32 k.1)) 0#32 = BitVec.ofNat 32 (253 - k.1) := by decide +kernel
  rw [e]; unfold invOfExp
  rcases h with ⟨rfl, h⟩ | ⟨h1, h2, h⟩
  · rw [hall ⟨126, by omega⟩, expFloat_eq _ (by norm_num), h]
    have : Ideal.div 1 1 = 1 := by unfold Ideal.div; simp
    unfold invR
    rw [this, if_neg (not_lt.2 (P_one ▸ P_mono (by omega) (by omega)))]
    exact P_one
  · rw [hall ⟨n, by omega⟩, expFloat_eq _ (by simp; omega), h]
    show P (253 - n) = _
    unfold invR Ideal.div
    rw [if_neg (P_pos (by omega)).ne']
    by_cases c4 : n = 254
    · subst c4
      rw [show P (254 + 1) = ⊤ by simp [P], EReal.inv_top, mul_zero, if_pos (P_pos one_ne_zero)]; simp [P]
    have hinv : (1 : EReal) * (P (n + 1))⁻¹ = (((2 : ℝ) ^ ((126 : ℤ) - n) : ℝ) : EReal) := by
      unfold P
      rw [if_neg (by omega), if_neg (by omega), one_mul, ← EReal.coe_inv, ← zpow_neg]
      congr 2; push_cast; ring
    rw [hinv]
    by_cases c3 : n = 253
    · subst c3
      rw [if_pos]
      · simp [P]
      · unfold P
        rw [if_neg (by omega), if_neg (by omega)]
        exact EReal.coe_lt_coe_iff.2 (zpow_lt_zpow_right₀ (by norm_num) (by norm_num))
    · rw [if_neg]
      · unfold P
        rw [if_neg (by omega), if_neg (by omega)]
        congr 2; omega
      · rw [not_lt]
        unfold P
        rw [if_neg (by omega), if_neg (by omega)]
        exact EReal.coe_le_coe_iff.2 (zpow_le_zpow_right₀ (by norm_num) (by push_cast; omega))

end Cert.Proof.Math

end
-- ==== Proof.Math.Row.lean ====
module

public import proofs.«01_k».proof.Proof.Math.PowerScale

/-! # The quantisation of one row

A row is scaled by the power of two that its largest magnitude asks for, and clipped to the range of the codes. -/

@[expose] public section

noncomputable section

namespace Cert.Proof.Math

open Idealize.ShloMosaic

/-- The reciprocal of the largest code, as the kernel and the reference write it. -/
def kappa : EReal := Ideal.ofBits .f32 0x3B124925#32

/-- The largest magnitude of a row. -/
def amax (v : Fin 8192 → EReal) : EReal :=
  (Finset.univ : Finset (Fin 8192)).fold max (Ideal.ofBits .f32 0xFF800000#32) fun k => max (v k) (-(v k))

/-- The scale of a row. -/
def rowScale (v : Fin 8192 → EReal) : EReal := scaleR (amax v * kappa)

/-- A row's code in column `k`. -/
def rowCode (v : Fin 8192 → EReal) (k : Fin 8192) : EReal :=
  min (Ideal.ofBits .f32 0x43E00000#32) (max (Ideal.ofBits .f32 0xC3E00000#32) (v k * invR (rowScale v)))

/-- The maximum over 64 slices of 128 columns, first over the slices and then over the columns, is the maximum over the row. -/
theorem fold_lanes (e : EReal) (f : Fin 8192 → EReal) (u : Fin 128 → EReal)
    (hu : ∀ l c, u l ≤ c ↔ ∀ k : Fin 64, f ⟨128 * k.1 + l.1, by omega⟩ ≤ c) :
    (Finset.univ : Finset (Fin 128)).fold max e u = (Finset.univ : Finset (Fin 8192)).fold max e f := by
  refine eq_of_forall_ge_iff fun c => ?_
  rw [Finset.fold_max_le, Finset.fold_max_le]
  refine and_congr_right fun _ => ⟨fun h k _ => ?_, fun h l _ => (hu l c).2 fun k => h _ (Finset.mem_univ _)⟩
  have := (hu ⟨k.1 % 128, Nat.mod_lt _ (by decide)⟩ c).1 (h _ (Finset.mem_univ _)) ⟨k.1 / 128, by omega⟩
  have e : (⟨128 * (k.1 / 128) + k.1 % 128, by omega⟩ : Fin 8192) = k := Fin.ext (by show 128 * (k.1 / 128) + k.1 % 128 = k.1; omega)
  rw [← e]; exact this

end Cert.Proof.Math

end
-- ==== Proof.KernelIdeal.ChunkValue.lean ====
module

public import proofs.«01_k».proof.Proof.KernelIdeal.Chunk
public import proofs.«01_k».proof.Proof.Math.Row
public import Idealize.ShloMosaic.Lib.Pointwise

/-! # The codes and the scales of a chunk over the extended reals -/

@[expose] public section

set_option maxRecDepth 16384

noncomputable section

namespace Cert.Proof.KernelIdeal

open Cert.KernelIdeal Cert.KernelIdeal.Gen

open Idealize.ShloMosaic Idealize.ShloMosaic.Pointwise Cert.Proof.Math

section Chunk

variable (x : S128x8192.Idx → Elt Ideal .bf16) (s : S1x8192.Idx → Elt Ideal .f32)

/-- Row `r` of the smoothed chunk. -/
def row (r : Fin 128) : Fin 8192 → EReal := fun k => Ideal.div (x (ix2 r k)) (s (ix2 0 k))

/-- A slice's smoothed entries are entries of the chunk's rows. -/
theorem sm_apply (g : Fin 4) (k : Fin 64) (r : Fin 32) (l : Fin 128) :
    sm x s g k (ix2 r l) = row x s ⟨32 * g.1 + r.1, by omega⟩ ⟨128 * k.1 + l.1, by omega⟩ := by
  pointwise [sm]
  rfl

/-- The running maximum is bounded by what bounds every magnitude met so far in its lane. -/
theorem mxUpTo_le (g : Fin 4) (r : Fin 32) (l : Fin 128) (c : EReal) : ∀ (n : ℕ) (h : n < 64),
    mxUpTo x s g n h (ix2 r l) ≤ c ↔ ∀ k : Fin 64, k.1 ≤ n →
      max (row x s ⟨32 * g.1 + r.1, by omega⟩ ⟨128 * k.1 + l.1, by omega⟩) (-(row x s ⟨32 * g.1 + r.1, by omega⟩ ⟨128 * k.1 + l.1, by omega⟩)) ≤ c
  | 0, h => by
    have e : mxUpTo x s g 0 h (ix2 r l) = max (sm x s g ⟨0, h⟩ (ix2 r l)) (-(sm x s g ⟨0, h⟩ (ix2 r l))) := rfl
    rw [e, sm_apply]
    refine ⟨fun H k hk => ?_, fun H => H ⟨0, h⟩ le_rfl⟩
    obtain rfl : k = ⟨0, h⟩ := Fin.ext (Nat.le_zero.1 hk)
    exact H
  | n + 1, h => by
    have e : mxUpTo x s g (n + 1) h (ix2 r l) = max (mxUpTo x s g n (Nat.lt_of_succ_lt h) (ix2 r l))
      (max (sm x s g ⟨n + 1, h⟩ (ix2 r l)) (-(sm x s g ⟨n + 1, h⟩ (ix2 r l)))) := rfl
    rw [e, sm_apply, max_le_iff, mxUpTo_le g r l c n]
    refine ⟨fun H k hk => ?_, fun H => ⟨fun k hk => H k (Nat.le_succ_of_le hk), H ⟨n + 1, h⟩ le_rfl⟩⟩
    rcases Nat.le_or_eq_of_le_succ hk with hk | hk
    · exact H.1 k hk
    · obtain rfl : k = ⟨n + 1, h⟩ := Fin.ext hk
      exact H.2

/-- A group's maxima are the largest magnitudes of its rows. -/
theorem amaxV_apply (g : Fin 4) (r : Fin 32) : amaxV x s g (ix2 r 0) = amax (row x s ⟨32 * g.1 + r.1, by omega⟩) := by
  pointwise [amaxV]
  exact fold_lanes _ _ _ fun l c => (mxUpTo_le x s g r l c 63 (by decide)).trans
    ⟨fun H k => H k (by omega), fun H k _ => H k⟩

/-- The exponents kept for a group, one row at a time. -/
theorem keptV_apply (a : FVec Ideal S32x1 .f32) (j : S32x1.Idx) : keptV a j = keptExp (F := Ideal) (a j) (a j * kappa) := rfl

/-- A slice's codes are the codes of the chunk's rows. -/
theorem codeV_apply (g : Fin 4) (k : Fin 64) (r : Fin 32) (l : Fin 128) :
    codeV x s g k (ix2 r l) = rowCode (row x s ⟨32 * g.1 + r.1, by omega⟩) ⟨128 * k.1 + l.1, by omega⟩ := by
  have h := invOfExp_keptExp (amaxV x s g (ix2 r 0)) kappa
  rw [amaxV_apply] at h
  pointwise [codeV, invV]
  rw [sm_apply, keptV_apply, amaxV_apply]
  exact congrArg (fun z => min (Ideal.ofBits .f32 0x43E00000#32) (max (Ideal.ofBits .f32 0xC3E00000#32)
    (row x s ⟨32 * g.1 + r.1, by omega⟩ ⟨128 * k.1 + l.1, by omega⟩ * z))) h

/-- A group's stored scales are the scales of its rows, the same in every lane. -/
theorem sclPiece_apply (i : grid0.Coords) (g : Fin 4) (r : Fin 32) (l : Fin 128) :
    (sclPiece x s i g).2 (ix2 r l) = rowScale (row x s ⟨32 * g.1 + r.1, by omega⟩) := by
  have h := scaleOfExp_keptExp (amaxV x s g (ix2 r 0)) kappa
  rw [amaxV_apply] at h
  pointwise [sclPiece, scaleV]
  rw [keptV_apply, amaxV_apply]
  exact h

/-! ## The chunk's window -/

/-- A chunk's codes. -/
def codes (j : S128x8192.Idx) : EReal := rowCode (row x s (j 0)) (j 1)

/-- What one store into the chunk's window is. -/
theorem mem_winPieces (g : Fin 4) (L : List (View.Piece (Elt Ideal) S128x8192 .fp8e4m3)) (p : View.Piece (Elt Ideal) S128x8192 .fp8e4m3) :
    ∀ (n : ℕ) (h : n ≤ 64), p ∈ winPieces x s g n h L ↔ (∃ k : Fin 64, k.1 < n ∧ p = ⟨rowRect g k, codeV x s g k⟩) ∨ p ∈ L
  | 0, h => by
    show p ∈ L ↔ _
    exact ⟨Or.inr, fun H => H.elim (fun ⟨k, hk, _⟩ => absurd hk (Nat.not_lt_zero _)) id⟩
  | n + 1, h => by
    show p ∈ _ :: winPieces x s g n _ L ↔ _
    rw [List.mem_cons, mem_winPieces g L p n, ← or_assoc]
    refine or_congr_left ⟨?_, ?_⟩
    · rintro (rfl | ⟨k, hk, e⟩)
      · exact ⟨⟨n, h⟩, Nat.lt_succ_self _, rfl⟩
      · exact ⟨k, Nat.lt_succ_of_lt hk, e⟩
    · rintro ⟨k, hk, e⟩
      rcases Nat.lt_succ_iff_lt_or_eq.1 hk with hk | hk
      · exact .inr ⟨k, hk, e⟩
      · obtain rfl : k = ⟨n, h⟩ := Fin.ext hk
        exact .inl e

/-- The stores into the window of codes are one for each group and slice. -/
theorem mem_winAll (p : View.Piece (Elt Ideal) S128x8192 .fp8e4m3) :
    p ∈ winAll x s ↔ ∃ g k, p = ⟨rowRect g k, codeV x s g k⟩ := by
  rw [winAll]
  simp only [mem_winPieces, List.not_mem_nil, or_false]
  constructor
  · rintro (⟨k, -, e⟩ | ⟨k, -, e⟩ | ⟨k, -, e⟩ | ⟨k, -, e⟩) <;> exact ⟨_, k, e⟩
  · rintro ⟨g, k, e⟩
    fin_cases g
    · exact .inr (.inr (.inr ⟨k, k.2, e⟩))
    · exact .inr (.inr (.inl ⟨k, k.2, e⟩))
    · exact .inr (.inl ⟨k, k.2, e⟩)
    · exact .inl ⟨k, k.2, e⟩

/-- The chunk's window, after the stores, holds the chunk's codes. -/
theorem read_winAll {sig' κ sp} (v : View sig' κ sp S128x8192 .fp8e4m3) (f : v.ty.Contents (Elt Ideal)) :
    v.read (Elt Ideal) (v.writes (Elt Ideal) f (winAll x s)) = codes x s := by
  funext y
  refine View.read_writes_apply_of_pieces v f (codes x s) (winAll x s) (fun p hp j => ?_) y ?_
  · obtain ⟨g, k, rfl⟩ := (mem_winAll x s p).1 hp
    obtain ⟨r, l, rfl⟩ : ∃ (r : Fin 32) (l : Fin 128), j = ix2 r l := ⟨j 0, j 1, by funext a; fin_cases a <;> rfl⟩
    refine (codeV_apply x s g k r l).trans ?_
    refine congrArg₂ (fun a b => rowCode (row x s a) b) (Fin.ext ?_) (Fin.ext ?_)
    · show 32 * g.1 + r.1 = 32 * g.1 + 1 * r.1; omega
    · show 128 * k.1 + l.1 = 128 * k.1 + 1 * l.1; omega
  · have h0 : (y 0).val < 128 := (y 0).2
    have h1 : (y 1).val < 8192 := (y 1).2
    refine ⟨_, (mem_winAll x s _).2 ⟨⟨(y 0).val / 32, by omega⟩, ⟨(y 1).val / 128, by omega⟩, rfl⟩, ?_⟩
    rw [Rect.mem_set_unit]
    intro a
    fin_cases a
    · show 32 * ((y 0).val / 32) ≤ (y 0).val ∧ (y 0).val < 32 * ((y 0).val / 32) + 32; omega
    · show 128 * ((y 1).val / 128) ≤ (y 1).val ∧ (y 1).val < 128 * ((y 1).val / 128) + 128; omega

/-! ## The tile's codes -/

variable (i : grid0.Coords)

/-- What one store into the tile's codes is. -/
theorem mem_scrPieces (g : Fin 4) (L : List (View.Piece (Elt Ideal) S1024x8192 .fp8e4m3)) (p : View.Piece (Elt Ideal) S1024x8192 .fp8e4m3) :
    ∀ (n : ℕ) (h : n ≤ 64), p ∈ scrPieces x s i g n h L ↔
      (∃ k : Fin 64, k.1 < n ∧ p = ⟨scrRect i g k, shapeCast S32x128 (codeV x s g k) shapeCasts_S32x128_S32x128⟩) ∨ p ∈ L
  | 0, h => by
    show p ∈ L ↔ _
    exact ⟨Or.inr, fun H => H.elim (fun ⟨k, hk, _⟩ => absurd hk (Nat.not_lt_zero _)) id⟩
  | n + 1, h => by
    show p ∈ _ :: scrPieces x s i g n _ L ↔ _
    rw [List.mem_cons, mem_scrPieces g L p n, ← or_assoc]
    refine or_congr_left ⟨?_, ?_⟩
    · rintro (rfl | ⟨k, hk, e⟩)
      · exact ⟨⟨n, h⟩, Nat.lt_succ_self _, rfl⟩
      · exact ⟨k, Nat.lt_succ_of_lt hk, e⟩
    · rintro ⟨k, hk, e⟩
      rcases Nat.lt_succ_iff_lt_or_eq.1 hk with hk | hk
      · exact .inr ⟨k, hk, e⟩
      · obtain rfl : k = ⟨n, h⟩ := Fin.ext hk
        exact .inl e

/-- The stores into the tile of codes are one for each group and slice. -/
theorem mem_scrAll (p : View.Piece (Elt Ideal) S1024x8192 .fp8e4m3) :
    p ∈ scrAll x s i ↔ ∃ g k, p = ⟨scrRect i g k, shapeCast S32x128 (codeV x s g k) shapeCasts_S32x128_S32x128⟩ := by
  rw [scrAll]
  simp only [mem_scrPieces, List.not_mem_nil, or_false]
  constructor
  · rintro (⟨k, -, e⟩ | ⟨k, -, e⟩ | ⟨k, -, e⟩ | ⟨k, -, e⟩) <;> exact ⟨_, k, e⟩
  · rintro ⟨g, k, e⟩
    fin_cases g
    · exact .inr (.inr (.inr ⟨k, k.2, e⟩))
    · exact .inr (.inr (.inl ⟨k, k.2, e⟩))
    · exact .inr (.inl ⟨k, k.2, e⟩)
    · exact .inl ⟨k, k.2, e⟩

/-- The row of the chunk that row `r` of the tile is, when the chunk begins at row `b`; rows outside are folded in. -/
def inChunk (b : ℕ) (r : ℕ) : Fin 128 := ⟨(r - b) % 128, Nat.mod_lt _ (by decide)⟩

/-- The point's chunk of the tile's codes holds the chunk's codes after the stores. -/
theorem read_scrAll_of_mem {sig' κ sp} (v : View sig' κ sp S1024x8192 .fp8e4m3) (f : v.ty.Contents (Elt Ideal)) (y : S1024x8192.Idx)
    (r : Fin 128) (hr : (y 0).val = 128 * min (i 1).1 7 + r.1) :
    v.read (Elt Ideal) (v.writes (Elt Ideal) f (scrAll x s i)) y = rowCode (row x s r) (y 1) := by
  refine (View.read_writes_apply_of_pieces v f (fun y => rowCode (row x s (inChunk (128 * min (i 1).1 7) (y 0).val)) (y 1)) (scrAll x s i)
    (fun p hp j => ?_) y ?_).trans ?_
  · obtain ⟨g, k, rfl⟩ := (mem_scrAll x s i p).1 hp
    obtain ⟨r, l, rfl⟩ : ∃ (r : Fin 32) (l : Fin 128), j = ix2 r l := ⟨j 0, j 1, by funext a; fin_cases a <;> rfl⟩
    have e : shapeCast S32x128 (codeV x s g k) shapeCasts_S32x128_S32x128 (ix2 r l) = codeV x s g k (ix2 r l) := by pointwise []
    refine e.trans ((codeV_apply x s g k r l).trans ?_)
    refine congrArg₂ (fun a b => rowCode (row x s a) b) (Fin.ext ?_) (Fin.ext ?_)
    · show 32 * g.1 + r.1 = (rowAt i (BitVec.ofNat 32 (32 * g.1)) + 1 * r.1 - 128 * min (i 1).1 7) % 128
      rw [rowAt_eq]; omega
    · show 128 * k.1 + l.1 = 128 * k.1 + 1 * l.1; omega
  · have h1 : (y 1).val < 8192 := (y 1).2
    refine ⟨_, (mem_scrAll x s i _).2 ⟨⟨r.1 / 32, by omega⟩, ⟨(y 1).val / 128, by omega⟩, rfl⟩, ?_⟩
    rw [Rect.mem_set_unit]
    intro a
    fin_cases a
    · show rowAt i (BitVec.ofNat 32 (32 * (⟨r.1 / 32, by omega⟩ : Fin 4).1)) ≤ (y 0).val ∧ (y 0).val < rowAt i (BitVec.ofNat 32 (32 * (⟨r.1 / 32, by omega⟩ : Fin 4).1)) + 32
      rw [rowAt_eq, hr]
      show 128 * min (i 1).1 7 + 32 * (r.1 / 32) ≤ 128 * min (i 1).1 7 + r.1 ∧ 128 * min (i 1).1 7 + r.1 < 128 * min (i 1).1 7 + 32 * (r.1 / 32) + 32
      omega
    · show 128 * ((y 1).val / 128) ≤ (y 1).val ∧ (y 1).val < 128 * ((y 1).val / 128) + 128; omega
  · refine congrArg (fun a => rowCode (row x s a) (y 1)) (Fin.ext ?_)
    show ((y 0).val - 128 * min (i 1).1 7) % 128 = r.1
    rw [hr]; omega

/-- The rest of the tile's codes is left as it was. -/
theorem read_scrAll_of_not_mem {sig' κ sp} (v : View sig' κ sp S1024x8192 .fp8e4m3) (f : v.ty.Contents (Elt Ideal)) (y : S1024x8192.Idx)
    (hr : (y 0).val < 128 * min (i 1).1 7 ∨ 128 * min (i 1).1 7 + 128 ≤ (y 0).val) :
    v.read (Elt Ideal) (v.writes (Elt Ideal) f (scrAll x s i)) y = v.read (Elt Ideal) f y := by
  refine View.read_writes_apply_of_forall_not_mem v f y _ fun p hp hy => ?_
  obtain ⟨g, k, rfl⟩ := (mem_scrAll x s i p).1 hp
  rw [Rect.mem_set_unit] at hy
  have h : rowAt i (BitVec.ofNat 32 (32 * g.1)) ≤ (y 0).val ∧ (y 0).val < rowAt i (BitVec.ofNat 32 (32 * g.1)) + 32 := hy 0
  rw [rowAt_eq] at h
  omega

/-! ## The tile's scales -/

/-- The stores into the tile of scales are one for each group. -/
theorem mem_sclAll (p : View.Piece (Elt Ideal) S1024x128 .f32) : p ∈ sclAll x s i ↔ ∃ g, p = sclPiece x s i g := by
  simp only [sclAll, List.mem_cons, List.not_mem_nil, or_false]
  constructor
  · rintro (e | e | e | e) <;> exact ⟨_, e⟩
  · rintro ⟨g, e⟩
    fin_cases g
    · exact .inr (.inr (.inr e))
    · exact .inr (.inr (.inl e))
    · exact .inr (.inl e)
    · exact .inl e

/-- The scales that the point's chunk puts in the tile's rows. -/
def sclG (y : S1024x128.Idx) : EReal := rowScale (row x s (inChunk (128 * min (i 1).1 7) (y 0).val))

/-- Each store of scales agrees with the one function of the tile's rows. -/
theorem sclAll_agree : ∀ p ∈ sclAll x s i, ∀ j : p.1.shape.Idx, p.2 j = sclG x s i (p.1.emb j) := fun p hp j => by
  obtain ⟨g, rfl⟩ := (mem_sclAll x s i p).1 hp
  obtain ⟨r, l, rfl⟩ : ∃ (r : Fin 32) (l : Fin 128), j = ix2 r l := ⟨j 0, j 1, by funext a; fin_cases a <;> rfl⟩
  refine (sclPiece_apply x s i g r l).trans ?_
  refine congrArg (fun a => rowScale (row x s a)) (Fin.ext ?_)
  show 32 * g.1 + r.1 = (rowAt i (BitVec.ofNat 32 (32 * g.1)) + 1 * r.1 - 128 * min (i 1).1 7) % 128
  rw [rowAt_eq]; omega

/-- The stores of scales cover the chunk's rows. -/
theorem sclAll_cover (y : S1024x128.Idx) (r : Fin 128) (hr : (y 0).val = 128 * min (i 1).1 7 + r.1) : ∃ p ∈ sclAll x s i, y ∈ p.1.set := by
  have h1 : (y 1).val < 128 := (y 1).2
  refine ⟨_, (mem_sclAll x s i _).2 ⟨⟨r.1 / 32, by omega⟩, rfl⟩, ?_⟩
  show y ∈ (sclRect i ⟨r.1 / 32, by omega⟩).set
  rw [Rect.mem_set_unit]
  intro a
  fin_cases a
  · show rowAt i (BitVec.ofNat 32 (32 * (⟨r.1 / 32, by omega⟩ : Fin 4).1)) ≤ (y 0).val ∧ (y 0).val < rowAt i (BitVec.ofNat 32 (32 * (⟨r.1 / 32, by omega⟩ : Fin 4).1)) + 32
    rw [rowAt_eq, hr]
    show 128 * min (i 1).1 7 + 32 * (r.1 / 32) ≤ 128 * min (i 1).1 7 + r.1 ∧ 128 * min (i 1).1 7 + r.1 < 128 * min (i 1).1 7 + 32 * (r.1 / 32) + 32
    omega
  · show 0 ≤ (y 1).val ∧ (y 1).val < 0 + 128; omega

/-- That function at a row of the chunk is the row's scale. -/
theorem sclG_eq (y : S1024x128.Idx) (r : Fin 128) (hr : (y 0).val = 128 * min (i 1).1 7 + r.1) : sclG x s i y = rowScale (row x s r) := by
  refine congrArg (fun a => rowScale (row x s a)) (Fin.ext ?_)
  show ((y 0).val - 128 * min (i 1).1 7) % 128 = r.1
  rw [hr]; omega

/-- The point's chunk of the tile's scales holds the chunk's scales after the stores, the same in every lane. -/
theorem read_sclAll_of_mem {sig' κ sp} (v : View sig' κ sp S1024x128 .f32) (f : v.ty.Contents (Elt Ideal)) (y : S1024x128.Idx)
    (r : Fin 128) (hr : (y 0).val = 128 * min (i 1).1 7 + r.1) :
    v.read (Elt Ideal) (v.writes (Elt Ideal) f (sclAll x s i)) y = rowScale (row x s r) :=
  (View.read_writes_apply_of_pieces v f (sclG x s i) (sclAll x s i) (sclAll_agree x s i) y (sclAll_cover x s i y r hr)).trans (sclG_eq x s i y r hr)

/-- The rest of the tile's scales is left as it was. -/
theorem read_sclAll_of_not_mem {sig' κ sp} (v : View sig' κ sp S1024x128 .f32) (f : v.ty.Contents (Elt Ideal)) (y : S1024x128.Idx)
    (hr : (y 0).val < 128 * min (i 1).1 7 ∨ 128 * min (i 1).1 7 + 128 ≤ (y 0).val) :
    v.read (Elt Ideal) (v.writes (Elt Ideal) f (sclAll x s i)) y = v.read (Elt Ideal) f y := by
  refine View.read_writes_apply_of_forall_not_mem v f y _ fun p hp hy => ?_
  obtain ⟨g, rfl⟩ := (mem_sclAll x s i p).1 hp
  replace hy : y ∈ (sclRect i g).set := hy
  rw [Rect.mem_set_unit] at hy
  have h : rowAt i (BitVec.ofNat 32 (32 * g.1)) ≤ (y 0).val ∧ (y 0).val < rowAt i (BitVec.ofNat 32 (32 * g.1)) + 32 := hy 0
  rw [rowAt_eq] at h
  omega

/-- The transposed first lane at `l` is lane 0 of row `l`. -/
theorem xsV_apply (v : Vec Ideal S128x128 .f32) (l : Fin 128) : xsV v (ix3 0 0 l) = v (ix2 l 0) := by
  pointwise [xsV]

/-- The window of scales holds the chunk's scales after its store. -/
theorem read_xsPieces {sig' κ sp} {sig'' κ' sp'} (v : View sig' κ sp S1x1x128 .f32) (f : v.ty.Contents (Elt Ideal)) (v' : View sig'' κ' sp' S1024x128 .f32) :
    v.read (Elt Ideal) (v.writes (Elt Ideal) f (xsPieces (v'.readCov (sclAll x s i) (sclBlock i).toLoadRect)))
      = fun y => rowScale (row x s (y 2)) := by
  have hrow : ∀ j : S128x128.Idx, ((((sclBlock i).toLoadRect.idx j) : S1024x128.Idx) 0).val = 128 * min (i 1).1 7 + (j 0).val := fun j => by
    show rowBase i + 1 * (j 0).val = _
    rw [rowBase_eq]; omega
  have hV : v'.readCov (sclAll x s i) (sclBlock i).toLoadRect = fun j : S128x128.Idx => rowScale (row x s (j 0)) := by
    rw [View.readCov_eq_canon _ _ _ fun j => sclAll_cover x s i _ _ (hrow j)]
    funext j
    exact (View.canon_apply_of_pieces (sclG x s i) (sclAll x s i) (sclAll_agree x s i) _ (sclAll_cover x s i _ _ (hrow j))).trans (sclG_eq x s i _ _ (hrow j))
  rw [hV]
  funext y
  refine View.read_writes_apply_of_pieces v f (fun y => rowScale (row x s (y 2))) _ (fun p hp j => ?_) y ?_
  · obtain rfl := List.mem_singleton.1 hp
    obtain ⟨l, rfl⟩ : ∃ l : Fin 128, j = ix3 0 0 l := ⟨j 2, by
      funext a; fin_cases a
      · exact Fin.ext (Nat.lt_one_iff.1 (j 0).2)
      · exact Fin.ext (Nat.lt_one_iff.1 (j 1).2)
      · rfl⟩
    refine (xsV_apply (fun j => rowScale (row x s (j 0))) l).trans ?_
    refine congrArg (fun a => rowScale (row x s a)) (Fin.ext ?_)
    show l.1 = 0 + 1 * l.1; omega
  · refine ⟨_, List.mem_singleton.2 rfl, ?_⟩
    rw [Rect.mem_set_unit]
    intro a
    fin_cases a
    · show 0 ≤ (y 0).val ∧ (y 0).val < 0 + 1; have : (y 0).val < 1 := (y 0).2; omega
    · show 0 ≤ (y 1).val ∧ (y 1).val < 0 + 1; have : (y 1).val < 1 := (y 1).2; omega
    · show 0 ≤ (y 2).val ∧ (y 2).val < 0 + 128; have : (y 2).val < 128 := (y 2).2; omega

end Chunk

/-! ## The results of a tile -/

section Tile

variable (a : S1024x8192.Idx → Elt Ideal .fp8e4m3) (w : S1024x8192.Idx → Elt Ideal .fp8e4m3) (sc : S1024x128.Idx → Elt Ideal .f32) (ws : S1x1024.Idx → Elt Ideal .f32)

/-- A result: the product of a row of codes and a row of weights, times the row's scale, times the column's scale. -/
def yG (R : Fin 1024 → EReal) (y : S1024x1024.Idx) : EReal :=
  (∑ k : Fin 8192, a (ix2 (y 0) k) * w (ix2 (y 1) k)) * R (y 0) * ws (ix2 0 (y 1))

/-- The window of results, after the stores, holds the tile's results, when every lane of the scales agrees. -/
theorem read_yAll {sig' κ sp} (v : View sig' κ sp S1024x1024 .bf16) (f : v.ty.Contents (Elt Ideal)) (R : Fin 1024 → EReal)
    (hR : ∀ r l, sc (ix2 r l) = R r) :
    v.read (Elt Ideal) (v.writes (Elt Ideal) f (yAll a w sc ws)) = yG a w ws R := by
  have hm : ∀ p, p ∈ yAll a w sc ws ↔ ∃ n, p = yPiece a w sc ws n := fun p => by
    simp only [yAll, List.mem_cons, List.not_mem_nil, or_false]
    constructor
    · rintro (e | e | e | e) <;> exact ⟨_, e⟩
    · rintro ⟨g, e⟩
      fin_cases g
      · exact .inr (.inr (.inr e))
      · exact .inr (.inr (.inl e))
      · exact .inr (.inl e)
      · exact .inl e
  funext y
  refine View.read_writes_apply_of_pieces v f (yG a w ws R) _ (fun p hp j => ?_) y ?_
  · obtain ⟨n, rfl⟩ := (hm p).1 hp
    obtain ⟨r, l, rfl⟩ : ∃ (r : Fin 1024) (l : Fin 256), j = ix2 r l := ⟨j 0, j 1, by funext a; fin_cases a <;> rfl⟩
    have e : yV a w sc ws n (ix2 r l) = (∑ x : Fin 8192, a (ix2 r x) * w (ix2 ⟨256 * n.1 + l.1, by omega⟩ x)) * R r * ws (ix2 0 ⟨256 * n.1 + l.1, by omega⟩) := by
      pointwise [yV]
      simp only [hR, dite_eq_ite, ite_self]
    refine e.trans ?_
    have e0 : ((yRect n).emb (ix2 r l) : S1024x1024.Idx) 0 = r := Fin.ext (by show 0 + 1 * r.1 = r.1; omega)
    have e1 : ((yRect n).emb (ix2 r l) : S1024x1024.Idx) 1 = (⟨256 * n.1 + l.1, by omega⟩ : Fin 1024) := Fin.ext (by show 256 * n.1 + 1 * l.1 = 256 * n.1 + l.1; omega)
    show _ = yG a w ws R ((yRect n).emb (ix2 r l))
    unfold yG
    rw [e0, e1]
  · have h0 : (y 0).val < 1024 := (y 0).2
    have h1 : (y 1).val < 1024 := (y 1).2
    refine ⟨_, (hm _).2 ⟨⟨(y 1).val / 256, by omega⟩, rfl⟩, ?_⟩
    show y ∈ (yRect ⟨(y 1).val / 256, by omega⟩).set
    rw [Rect.mem_set_unit]
    intro a
    fin_cases a
    · show 0 ≤ (y 0).val ∧ (y 0).val < 0 + 1024; omega
    · show 256 * ((y 1).val / 256) ≤ (y 1).val ∧ (y 1).val < 256 * ((y 1).val / 256) + 256; omega

end Tile

end Cert.Proof.KernelIdeal

end
-- ==== Proof.KernelIdeal.Buffers.lean ====
module

public import proofs.«01_k».proof.Proof.Gen.KernelIdeal.Skeleton
public import proofs.«01_k».proof.Proof.Gen.KernelIdeal.Frame
public import Idealize.ShloMosaic.Lib.Tactic

/-! # Names for a buffer held whole

Short names for the contents of a buffer and for holding it, which the runs of the body are stated with. -/

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole with the contents `f`. -/
abbrev pt (c : Dev nD) {sp : Space} {S : Shape} {e : EltTy} (M : Memref sig .tc sp S e) (f : Bf (F := F) c M) : sProp 𝕄 :=
  M.view.loc (c : Thread nD τ) ↦{fullShare} f

end Cert.Proof.KernelIdeal

end
-- ==== Proof.KernelIdeal.Run1.lean ====
module

public import proofs.«01_k».proof.Proof.Gen.KernelIdeal.Skeleton
public import proofs.«01_k».proof.Proof.Gen.KernelIdeal.Frame
public import Idealize.ShloMosaic.Lib.Tactic
public import proofs.«01_k».proof.Proof.KernelIdeal.Buffers

/-! # The body at a point of the first grid row -/

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- At a point of the first grid row the body runs without fault: it quantises a chunk into the first pair of buffers. The contents that the branch leaves in the buffers that it writes are part of what is built, so that their values can be read off. -/
noncomputable def run1 (c : Dev nD) (i : grid0.Coords) (h1 : k0_cond1 i = 1#1) (h2 : ¬ k0_cond2 i = 1#1) (h3 : ¬ k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M7 × Bf (F := F) c M8 × Bf (F := F) c M9 × Bf (F := F) c M11 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 f6 ∗ pt c M7 W.1 ∗ pt c M8 W.2.1 ∗ pt c M9 W.2.2.1 ∗ pt c M10 f10 ∗ pt c M11 W.2.2.2 ∗ pt c M12 f12) -∗ Q ⟨⟩))
        ⊢ wp frame (wpE (defs₀ (F := F)) Variants.none c none) E (cc0_smoothquant_linear i M2 w2 M3 w3 M4 w4 M5 w5 M6 w6 M7 w7 M8 w8 M9 w9 M10 w10 M11 w11 M12 w12) Q } := by
  refine ⟨⟨?_, ?_, ?_, ?_⟩, fun E Q => ?run⟩
  case run =>
    iintro ⟨H2, H3, H4, H5, H6, H7, H8, H9, H10, H11, H12, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof.KernelIdeal

end
-- ==== Proof.KernelIdeal.Pieces1.lean ====
module

public import proofs.«01_k».proof.Proof.KernelIdeal.Chunk
public import proofs.«01_k».proof.Proof.KernelIdeal.Run1

/-! # The stores of a grid point of the first row of the grid, in closed form -/

@[expose] public section

set_option maxRecDepth 16384

noncomputable section

namespace Cert.Proof.KernelIdeal

open Cert.KernelIdeal Cert.KernelIdeal.Gen

open Idealize.ShloMosaic

variable {F : FTy → Type} [FloatOps F]

set_option maxHeartbeats 4000000 in
/-- What the point leaves in the buffers it writes: the stores of the chunk's codes and scales over the old contents. -/
theorem run1_eq (c : Dev nD) (i : grid0.Coords) (h1 : k0_cond1 i = 1#1) (h2 : ¬ k0_cond2 i = 1#1) (h3 : ¬ k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    (run1 c i h1 h2 h3 M2 w2 M3 w3 M4 w4 M5 w5 M6 w6 M7 w7 M8 w8 M9 w9 M10 w10 M11 w11 M12 w12 f2 f3 f4 f5 f6 f7 f8 f9 f10 f11 f12).1 =
      (M7.view.writes (Elt F) f7 (winAll (M2.view.read (Elt F) f2) (M3.view.read (Elt F) f3)),
        M8.view.writes (Elt F) f8 (xsPieces (M11.view.readCov (sclAll (M2.view.read (Elt F) f2) (M3.view.read (Elt F) f3) i) (sclBlock i).toLoadRect)),
        M9.view.writes (Elt F) f9 (scrAll (M2.view.read (Elt F) f2) (M3.view.read (Elt F) f3) i),
        M11.view.writes (Elt F) f11 (sclAll (M2.view.read (Elt F) f2) (M3.view.read (Elt F) f3) i)) := rfl

end Cert.Proof.KernelIdeal

end
-- ==== Proof.KernelIdeal.Run2.lean ====
module

public import proofs.«01_k».proof.Proof.Gen.KernelIdeal.Skeleton
public import proofs.«01_k».proof.Proof.Gen.KernelIdeal.Frame
public import Idealize.ShloMosaic.Lib.Tactic
public import proofs.«01_k».proof.Proof.KernelIdeal.Buffers

/-! # The body at a point of an odd grid row -/

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- At a point of an odd grid row the body runs without fault: it multiplies by the first pair of buffers and quantises a chunk into the second. The contents that the branch leaves in the buffers that it writes are part of what is built, so that their values can be read off. -/
noncomputable def run2 (c : Dev nD) (i : grid0.Coords) (h1 : ¬ k0_cond1 i = 1#1) (h2 : k0_cond2 i = 1#1) (h3 : ¬ k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M6 × Bf (F := F) c M7 × Bf (F := F) c M8 × Bf (F := F) c M10 × Bf (F := F) c M12 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 W.1 ∗ pt c M7 W.2.1 ∗ pt c M8 W.2.2.1 ∗ pt c M9 f9 ∗ pt c M10 W.2.2.2.1 ∗ pt c M11 f11 ∗ pt c M12 W.2.2.2.2) -∗ Q ⟨⟩))
        ⊢ wp frame (wpE (defs₀ (F := F)) Variants.none c none) E (cc0_smoothquant_linear i M2 w2 M3 w3 M4 w4 M5 w5 M6 w6 M7 w7 M8 w8 M9 w9 M10 w10 M11 w11 M12 w12) Q } := by
  refine ⟨⟨?_, ?_, ?_, ?_, ?_⟩, fun E Q => ?run⟩
  case run =>
    iintro ⟨H2, H3, H4, H5, H6, H7, H8, H9, H10, H11, H12, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof.KernelIdeal

end
-- ==== Proof.KernelIdeal.Pieces2.lean ====
module

public import proofs.«01_k».proof.Proof.KernelIdeal.Chunk
public import proofs.«01_k».proof.Proof.KernelIdeal.Run2

/-! # The stores of a grid point of an odd row of the grid, in closed form -/

@[expose] public section

set_option maxRecDepth 16384

noncomputable section

namespace Cert.Proof.KernelIdeal

open Cert.KernelIdeal Cert.KernelIdeal.Gen

open Idealize.ShloMosaic

variable {F : FTy → Type} [FloatOps F]

set_option maxHeartbeats 4000000 in
/-- What the point leaves in the buffers it writes: the stores of the chunk's codes and scales and of the tile of results over the old contents. -/
theorem run2_eq (c : Dev nD) (i : grid0.Coords) (h1 : ¬ k0_cond1 i = 1#1) (h2 : k0_cond2 i = 1#1) (h3 : ¬ k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    (run2 c i h1 h2 h3 M2 w2 M3 w3 M4 w4 M5 w5 M6 w6 M7 w7 M8 w8 M9 w9 M10 w10 M11 w11 M12 w12 f2 f3 f4 f5 f6 f7 f8 f9 f10 f11 f12).1 =
      (M6.view.writes (Elt F) f6 (yAll (M9.view.read (Elt F) f9) (M4.view.read (Elt F) f4) (M11.view.read (Elt F) f11) (M5.view.read (Elt F) f5)),
        M7.view.writes (Elt F) f7 (winAll (M2.view.read (Elt F) f2) (M3.view.read (Elt F) f3)),
        M8.view.writes (Elt F) f8 (xsPieces (M12.view.readCov (sclAll (M2.view.read (Elt F) f2) (M3.view.read (Elt F) f3) i) (sclBlock i).toLoadRect)),
        M10.view.writes (Elt F) f10 (scrAll (M2.view.read (Elt F) f2) (M3.view.read (Elt F) f3) i),
        M12.view.writes (Elt F) f12 (sclAll (M2.view.read (Elt F) f2) (M3.view.read (Elt F) f3) i)) := rfl

end Cert.Proof.KernelIdeal

end
-- ==== Proof.KernelIdeal.Run3.lean ====
module

public import proofs.«01_k».proof.Proof.Gen.KernelIdeal.Skeleton
public import proofs.«01_k».proof.Proof.Gen.KernelIdeal.Frame
public import Idealize.ShloMosaic.Lib.Tactic
public import proofs.«01_k».proof.Proof.KernelIdeal.Buffers

/-! # The body at a point of a later even grid row -/

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- At a point of a later even grid row the body runs without fault: it multiplies by the second pair of buffers and quantises a chunk into the first. The contents that the branch leaves in the buffers that it writes are part of what is built, so that their values can be read off. -/
noncomputable def run3 (c : Dev nD) (i : grid0.Coords) (h1 : ¬ k0_cond1 i = 1#1) (h2 : ¬ k0_cond2 i = 1#1) (h3 : k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M6 × Bf (F := F) c M7 × Bf (F := F) c M8 × Bf (F := F) c M9 × Bf (F := F) c M11 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 f10 ∗ pt c M11 W.2.2.2.2 ∗ pt c M12 f12) -∗ Q ⟨⟩))
        ⊢ wp frame (wpE (defs₀ (F := F)) Variants.none c none) E (cc0_smoothquant_linear i M2 w2 M3 w3 M4 w4 M5 w5 M6 w6 M7 w7 M8 w8 M9 w9 M10 w10 M11 w11 M12 w12) Q } := by
  refine ⟨⟨?_, ?_, ?_, ?_, ?_⟩, fun E Q => ?run⟩
  case run =>
    iintro ⟨H2, H3, H4, H5, H6, H7, H8, H9, H10, H11, H12, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof.KernelIdeal

end
-- ==== Proof.KernelIdeal.Pieces3.lean ====
module

public import proofs.«01_k».proof.Proof.KernelIdeal.Chunk
public import proofs.«01_k».proof.Proof.KernelIdeal.Run3

/-! # The stores of a grid point of a later even row of the grid, in closed form -/

@[expose] public section

set_option maxRecDepth 16384

noncomputable section

namespace Cert.Proof.KernelIdeal

open Cert.KernelIdeal Cert.KernelIdeal.Gen

open Idealize.ShloMosaic

variable {F : FTy → Type} [FloatOps F]

set_option maxHeartbeats 4000000 in
/-- What the point leaves in the buffers it writes: the stores of the chunk's codes and scales and of the tile of results over the old contents. -/
theorem run3_eq (c : Dev nD) (i : grid0.Coords) (h1 : ¬ k0_cond1 i = 1#1) (h2 : ¬ k0_cond2 i = 1#1) (h3 : k0_cond3 i = 1#1)
    (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    (run3 c i h1 h2 h3 M2 w2 M3 w3 M4 w4 M5 w5 M6 w6 M7 w7 M8 w8 M9 w9 M10 w10 M11 w11 M12 w12 f2 f3 f4 f5 f6 f7 f8 f9 f10 f11 f12).1 =
      (M6.view.writes (Elt F) f6 (yAll (M10.view.read (Elt F) f10) (M4.view.read (Elt F) f4) (M12.view.read (Elt F) f12) (M5.view.read (Elt F) f5)),
        M7.view.writes (Elt F) f7 (winAll (M2.view.read (Elt F) f2) (M3.view.read (Elt F) f3)),
        M8.view.writes (Elt F) f8 (xsPieces (M11.view.readCov (sclAll (M2.view.read (Elt F) f2) (M3.view.read (Elt F) f3) i) (sclBlock i).toLoadRect)),
        M9.view.writes (Elt F) f9 (scrAll (M2.view.read (Elt F) f2) (M3.view.read (Elt F) f3) i),
        M11.view.writes (Elt F) f11 (sclAll (M2.view.read (Elt F) f2) (M3.view.read (Elt F) f3) i)) := rfl

end Cert.Proof.KernelIdeal

end
-- ==== Proof.KernelIdeal.Body.lean ====
module

public import proofs.«01_k».proof.Proof.KernelIdeal.ChunkValue
public import proofs.«01_k».proof.Proof.KernelIdeal.Pieces1
public import proofs.«01_k».proof.Proof.KernelIdeal.Pieces2
public import proofs.«01_k».proof.Proof.KernelIdeal.Pieces3

/-! # One grid point, from contents to contents

What the body makes of the values its buffers hold, in each of its three branches. -/

@[expose] public section

set_option maxRecDepth 16384

noncomputable section

namespace Cert.Proof.KernelIdeal

open Cert.KernelIdeal Cert.KernelIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A whole buffer owned at a value is its points-to at some contents that read to the value. -/
theorem owns_eq (c : Dev nD) {sp : Space} {S : Shape} {e : EltTy} (M : Memref sig .tc sp S e) (h : M.IsWhole) (X : S.Idx → Elt Ideal e) :
    (owns (c : Thread nD τ) M fullShare X : sProp 𝕄) = iprop(∃ f : Bf (F := Ideal) c M, ⌜M.view.read (Elt Ideal) f = X⌝ ∗ pt c M f) := by
  unfold owns
  rw [h.set_eq_univ]

section New

variable (X : S128x8192.Idx → Elt Ideal .bf16) (S : S1x8192.Idx → Elt Ideal .f32) (i : grid0.Coords)

/-- A tile's codes with the point's chunk replaced by that chunk's codes. -/
def newCodes (B : S1024x8192.Idx → Elt Ideal .fp8e4m3) (y : S1024x8192.Idx) : EReal :=
  if h : 128 * min (i 1).1 7 ≤ (y 0).val ∧ (y 0).val < 128 * min (i 1).1 7 + 128 then
    rowCode (row X S ⟨(y 0).val - 128 * min (i 1).1 7, by omega⟩) (y 1)
  else B y

/-- A tile's scales with the point's chunk replaced by that chunk's scales. -/
def newScales (B : S1024x128.Idx → Elt Ideal .f32) (y : S1024x128.Idx) : EReal :=
  if h : 128 * min (i 1).1 7 ≤ (y 0).val ∧ (y 0).val < 128 * min (i 1).1 7 + 128 then
    rowScale (row X S ⟨(y 0).val - 128 * min (i 1).1 7, by omega⟩)
  else B y

/-- Reading the codes' buffer after a point's stores: the chunk's codes over what was there. -/
theorem read_scrAll {sig' κ sp} (v : View sig' κ sp S1024x8192 .fp8e4m3) (f : v.ty.Contents (Elt Ideal)) :
    v.read (Elt Ideal) (v.writes (Elt Ideal) f (scrAll X S i)) = newCodes X S i (v.read (Elt Ideal) f) := by
  funext y
  unfold newCodes
  split
  · next h => exact read_scrAll_of_mem X S i v f y _ (by show (y 0).val = 128 * min (i 1).1 7 + ((y 0).val - 128 * min (i 1).1 7); omega)
  · next h => exact read_scrAll_of_not_mem X S i v f y (by omega)

/-- Reading the scales' buffer after a point's stores: the chunk's scales over what was there. -/
theorem read_sclAll {sig' κ sp} (v : View sig' κ sp S1024x128 .f32) (f : v.ty.Contents (Elt Ideal)) :
    v.read (Elt Ideal) (v.writes (Elt Ideal) f (sclAll X S i)) = newScales X S i (v.read (Elt Ideal) f) := by
  funext y
  unfold newScales
  split
  · next h => exact read_sclAll_of_mem X S i v f y _ (by show (y 0).val = 128 * min (i 1).1 7 + ((y 0).val - 128 * min (i 1).1 7); omega)
  · next h => exact read_sclAll_of_not_mem X S i v f y (by omega)

end New

set_option maxHeartbeats 1000000 in
/-- A point of the grid's first row: the chunk's codes and scales go to the first tile buffers and to their windows; the results are left alone. -/
theorem body1 (c : Dev nD) (i : grid0.Coords) (h1 : k0_cond1 i = 1#1) (h2 : ¬ k0_cond2 i = 1#1) (h3 : ¬ k0_cond3 i = 1#1) (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (X : S128x8192.Idx → Elt Ideal .bf16) (S : S1x8192.Idx → Elt Ideal .f32) (W : S1024x8192.Idx → Elt Ideal .fp8e4m3) (WS : S1x1024.Idx → Elt Ideal .f32)
    (A B : S1024x8192.Idx → Elt Ideal .fp8e4m3) (SA SB : S1024x128.Idx → Elt Ideal .f32) (Y : S1024x1024.Idx → Elt Ideal .bf16) (E : Set ℕ) (Q : PUnit → sProp 𝕄) :
    iprop(owns (c : Thread nD τ) M2 fullShare X ∗ owns (c : Thread nD τ) M3 fullShare S ∗ owns (c : Thread nD τ) M4 fullShare W ∗ owns (c : Thread nD τ) M5 fullShare WS ∗ owns (c : Thread nD τ) M6 fullShare Y ∗ (∃ d, owns (c : Thread nD τ) M7 fullShare d) ∗ (∃ d, owns (c : Thread nD τ) M8 fullShare d) ∗ owns (c : Thread nD τ) M9 fullShare A ∗ owns (c : Thread nD τ) M10 fullShare B ∗ owns (c : Thread nD τ) M11 fullShare SA ∗ owns (c : Thread nD τ) M12 fullShare SB
        ∗ (iprop(owns (c : Thread nD τ) M2 fullShare X ∗ owns (c : Thread nD τ) M3 fullShare S ∗ owns (c : Thread nD τ) M4 fullShare W ∗ owns (c : Thread nD τ) M5 fullShare WS ∗ owns (c : Thread nD τ) M6 fullShare Y ∗ owns (c : Thread nD τ) M7 fullShare (codes X S) ∗ owns (c : Thread nD τ) M8 fullShare (fun y => rowScale (row X S (y 2))) ∗ owns (c : Thread nD τ) M9 fullShare (newCodes X S i A) ∗ owns (c : Thread nD τ) M10 fullShare B ∗ owns (c : Thread nD τ) M11 fullShare (newScales X S i SA) ∗ owns (c : Thread nD τ) M12 fullShare SB) -∗ Q ⟨⟩))
      ⊢ wp frame (wpE (defs₀ (F := Ideal)) Variants.none c none) E (cc0_smoothquant_linear i M2 w2 M3 w3 M4 w4 M5 w5 M6 w6 M7 w7 M8 w8 M9 w9 M10 w10 M11 w11 M12 w12) Q := by
  simp only [owns_eq c M2 w2, owns_eq c M3 w3, owns_eq c M4 w4, owns_eq c M5 w5, owns_eq c M6 w6, owns_eq c M7 w7, owns_eq c M8 w8, owns_eq c M9 w9, owns_eq c M10 w10, owns_eq c M11 w11, owns_eq c M12 w12]
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  subst hf2 hf3 hf4 hf5 hf6 hf9 hf10 hf11 hf12
  have e := run1_eq c i h1 h2 h3 M2 w2 M3 w3 M4 w4 M5 w5 M6 w6 M7 w7 M8 w8 M9 w9 M10 w10 M11 w11 M12 w12 f2 f3 f4 f5 f6 f7 f8 f9 f10 f11 f12
  generalize run1 c i h1 h2 h3 M2 w2 M3 w3 M4 w4 M5 w5 M6 w6 M7 w7 M8 w8 M9 w9 M10 w10 M11 w11 M12 w12 f2 f3 f4 f5 f6 f7 f8 f9 f10 f11 f12 = R0 at e
  obtain ⟨W0, run⟩ := R0
  subst e
  iapply (run E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; exact read_winAll _ _ M7.view f7
  isplitl [H8]
  · iexists _; isplitr
    swap; · iexact H8
    ipureintro; exact read_xsPieces _ _ i M8.view f8 M11.view
  isplitl [H9]
  · iexists _; isplitr
    swap; · iexact H9
    ipureintro; exact read_scrAll _ _ i M9.view f9
  isplitl [H10]
  · iexists _; isplitr
    swap; · iexact H10
    ipureintro; rfl
  isplitl [H11]
  · iexists _; isplitr
    swap; · iexact H11
    ipureintro; exact read_sclAll _ _ i M11.view f11
  iexists _; isplitr
  swap; · iexact H12
  ipureintro; rfl

set_option maxHeartbeats 1000000 in
/-- A point of an odd row: the chunk's codes and scales go to the second tile buffers and to their windows, and the results are those of the tile in the first buffers. -/
theorem body2 (c : Dev nD) (i : grid0.Coords) (h1 : ¬ k0_cond1 i = 1#1) (h2 : k0_cond2 i = 1#1) (h3 : ¬ k0_cond3 i = 1#1) (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (X : S128x8192.Idx → Elt Ideal .bf16) (S : S1x8192.Idx → Elt Ideal .f32) (W : S1024x8192.Idx → Elt Ideal .fp8e4m3) (WS : S1x1024.Idx → Elt Ideal .f32)
    (A B : S1024x8192.Idx → Elt Ideal .fp8e4m3) (SA SB : S1024x128.Idx → Elt Ideal .f32) (R : Fin 1024 → EReal) (hR : ∀ r l, SA (ix2 r l) = R r) (E : Set ℕ) (Q : PUnit → sProp 𝕄) :
    iprop(owns (c : Thread nD τ) M2 fullShare X ∗ owns (c : Thread nD τ) M3 fullShare S ∗ owns (c : Thread nD τ) M4 fullShare W ∗ owns (c : Thread nD τ) M5 fullShare WS ∗ (∃ d, owns (c : Thread nD τ) M6 fullShare d) ∗ (∃ d, owns (c : Thread nD τ) M7 fullShare d) ∗ (∃ d, owns (c : Thread nD τ) M8 fullShare d) ∗ owns (c : Thread nD τ) M9 fullShare A ∗ owns (c : Thread nD τ) M10 fullShare B ∗ owns (c : Thread nD τ) M11 fullShare SA ∗ owns (c : Thread nD τ) M12 fullShare SB
        ∗ (iprop(owns (c : Thread nD τ) M2 fullShare X ∗ owns (c : Thread nD τ) M3 fullShare S ∗ owns (c : Thread nD τ) M4 fullShare W ∗ owns (c : Thread nD τ) M5 fullShare WS ∗ owns (c : Thread nD τ) M6 fullShare (yG A W WS R) ∗ owns (c : Thread nD τ) M7 fullShare (codes X S) ∗ owns (c : Thread nD τ) M8 fullShare (fun y => rowScale (row X S (y 2))) ∗ owns (c : Thread nD τ) M9 fullShare A ∗ owns (c : Thread nD τ) M10 fullShare (newCodes X S i B) ∗ owns (c : Thread nD τ) M11 fullShare SA ∗ owns (c : Thread nD τ) M12 fullShare (newScales X S i SB)) -∗ Q ⟨⟩))
      ⊢ wp frame (wpE (defs₀ (F := Ideal)) Variants.none c none) E (cc0_smoothquant_linear i M2 w2 M3 w3 M4 w4 M5 w5 M6 w6 M7 w7 M8 w8 M9 w9 M10 w10 M11 w11 M12 w12) Q := by
  simp only [owns_eq c M2 w2, owns_eq c M3 w3, owns_eq c M4 w4, owns_eq c M5 w5, owns_eq c M6 w6, owns_eq c M7 w7, owns_eq c M8 w8, owns_eq c M9 w9, owns_eq c M10 w10, owns_eq c M11 w11, owns_eq c M12 w12]
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  subst hf2 hf3 hf4 hf5 hf9 hf10 hf11 hf12
  have e := run2_eq c i h1 h2 h3 M2 w2 M3 w3 M4 w4 M5 w5 M6 w6 M7 w7 M8 w8 M9 w9 M10 w10 M11 w11 M12 w12 f2 f3 f4 f5 f6 f7 f8 f9 f10 f11 f12
  generalize run2 c i h1 h2 h3 M2 w2 M3 w3 M4 w4 M5 w5 M6 w6 M7 w7 M8 w8 M9 w9 M10 w10 M11 w11 M12 w12 f2 f3 f4 f5 f6 f7 f8 f9 f10 f11 f12 = R0 at e
  obtain ⟨W0, run⟩ := R0
  subst e
  iapply (run E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; exact read_yAll _ _ _ _ M6.view f6 R hR
  isplitl [H7]
  · iexists _; isplitr
    swap; · iexact H7
    ipureintro; exact read_winAll _ _ M7.view f7
  isplitl [H8]
  · iexists _; isplitr
    swap; · iexact H8
    ipureintro; exact read_xsPieces _ _ i M8.view f8 M12.view
  isplitl [H9]
  · iexists _; isplitr
    swap; · iexact H9
    ipureintro; rfl
  isplitl [H10]
  · iexists _; isplitr
    swap; · iexact H10
    ipureintro; exact read_scrAll _ _ i M10.view f10
  isplitl [H11]
  · iexists _; isplitr
    swap; · iexact H11
    ipureintro; rfl
  iexists _; isplitr
  swap; · iexact H12
  ipureintro; exact read_sclAll _ _ i M12.view f12

set_option maxHeartbeats 1000000 in
/-- A point of a later even row: the chunk's codes and scales go to the first tile buffers and to their windows, and the results are those of the tile in the second buffers. -/
theorem body3 (c : Dev nD) (i : grid0.Coords) (h1 : ¬ k0_cond1 i = 1#1) (h2 : ¬ k0_cond2 i = 1#1) (h3 : k0_cond3 i = 1#1) (M2 : Memref sig .tc .vmem S128x8192 .bf16) (w2 : M2.IsWhole) (M3 : Memref sig .tc .vmem S1x8192 .f32) (w3 : M3.IsWhole) (M4 : Memref sig .tc .vmem S1024x8192 .fp8e4m3) (w4 : M4.IsWhole) (M5 : Memref sig .tc .vmem S1x1024 .f32) (w5 : M5.IsWhole) (M6 : Memref sig .tc .vmem S1024x1024 .bf16) (w6 : M6.IsWhole) (M7 : Memref sig .tc .vmem S128x8192 .fp8e4m3) (w7 : M7.IsWhole) (M8 : Memref sig .tc .vmem S1x1x128 .f32) (w8 : M8.IsWhole) (M9 : Memref sig .tc .vmem S1024x8192 .fp8e4m3) (w9 : M9.IsWhole) (M10 : Memref sig .tc .vmem S1024x8192 .fp8e4m3) (w10 : M10.IsWhole) (M11 : Memref sig .tc .vmem S1024x128 .f32) (w11 : M11.IsWhole) (M12 : Memref sig .tc .vmem S1024x128 .f32) (w12 : M12.IsWhole)
    (X : S128x8192.Idx → Elt Ideal .bf16) (S : S1x8192.Idx → Elt Ideal .f32) (W : S1024x8192.Idx → Elt Ideal .fp8e4m3) (WS : S1x1024.Idx → Elt Ideal .f32)
    (A B : S1024x8192.Idx → Elt Ideal .fp8e4m3) (SA SB : S1024x128.Idx → Elt Ideal .f32) (R : Fin 1024 → EReal) (hR : ∀ r l, SB (ix2 r l) = R r) (E : Set ℕ) (Q : PUnit → sProp 𝕄) :
    iprop(owns (c : Thread nD τ) M2 fullShare X ∗ owns (c : Thread nD τ) M3 fullShare S ∗ owns (c : Thread nD τ) M4 fullShare W ∗ owns (c : Thread nD τ) M5 fullShare WS ∗ (∃ d, owns (c : Thread nD τ) M6 fullShare d) ∗ (∃ d, owns (c : Thread nD τ) M7 fullShare d) ∗ (∃ d, owns (c : Thread nD τ) M8 fullShare d) ∗ owns (c : Thread nD τ) M9 fullShare A ∗ owns (c : Thread nD τ) M10 fullShare B ∗ owns (c : Thread nD τ) M11 fullShare SA ∗ owns (c : Thread nD τ) M12 fullShare SB
        ∗ (iprop(owns (c : Thread nD τ) M2 fullShare X ∗ owns (c : Thread nD τ) M3 fullShare S ∗ owns (c : Thread nD τ) M4 fullShare W ∗ owns (c : Thread nD τ) M5 fullShare WS ∗ owns (c : Thread nD τ) M6 fullShare (yG B W WS R) ∗ owns (c : Thread nD τ) M7 fullShare (codes X S) ∗ owns (c : Thread nD τ) M8 fullShare (fun y => rowScale (row X S (y 2))) ∗ owns (c : Thread nD τ) M9 fullShare (newCodes X S i A) ∗ owns (c : Thread nD τ) M10 fullShare B ∗ owns (c : Thread nD τ) M11 fullShare (newScales X S i SA) ∗ owns (c : Thread nD τ) M12 fullShare SB) -∗ Q ⟨⟩))
      ⊢ wp frame (wpE (defs₀ (F := Ideal)) Variants.none c none) E (cc0_smoothquant_linear i M2 w2 M3 w3 M4 w4 M5 w5 M6 w6 M7 w7 M8 w8 M9 w9 M10 w10 M11 w11 M12 w12) Q := by
  simp only [owns_eq c M2 w2, owns_eq c M3 w3, owns_eq c M4 w4, owns_eq c M5 w5, owns_eq c M6 w6, owns_eq c M7 w7, owns_eq c M8 w8, owns_eq c M9 w9, owns_eq c M10 w10, owns_eq c M11 w11, owns_eq c M12 w12]
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  subst hf2 hf3 hf4 hf5 hf9 hf10 hf11 hf12
  have e := run3_eq c i h1 h2 h3 M2 w2 M3 w3 M4 w4 M5 w5 M6 w6 M7 w7 M8 w8 M9 w9 M10 w10 M11 w11 M12 w12 f2 f3 f4 f5 f6 f7 f8 f9 f10 f11 f12
  generalize run3 c i h1 h2 h3 M2 w2 M3 w3 M4 w4 M5 w5 M6 w6 M7 w7 M8 w8 M9 w9 M10 w10 M11 w11 M12 w12 f2 f3 f4 f5 f6 f7 f8 f9 f10 f11 f12 = R0 at e
  obtain ⟨W0, run⟩ := R0
  subst e
  iapply (run E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; exact read_yAll _ _ _ _ M6.view f6 R hR
  isplitl [H7]
  · iexists _; isplitr
    swap; · iexact H7
    ipureintro; exact read_winAll _ _ M7.view f7
  isplitl [H8]
  · iexists _; isplitr
    swap; · iexact H8
    ipureintro; exact read_xsPieces _ _ i M8.view f8 M11.view
  isplitl [H9]
  · iexists _; isplitr
    swap; · iexact H9
    ipureintro; exact read_scrAll _ _ i M9.view f9
  isplitl [H10]
  · iexists _; isplitr
    swap; · iexact H10
    ipureintro; rfl
  isplitl [H11]
  · iexists _; isplitr
    swap; · iexact H11
    ipureintro; exact read_sclAll _ _ i M11.view f11
  iexists _; isplitr
  swap; · iexact H12
  ipureintro; rfl

end Cert.Proof.KernelIdeal

end
-- ==== Proof.KernelIdeal.Geometry.lean ====
module

public import proofs.«01_k».proof.Proof.KernelIdeal.ChunkValue
public import proofs.«01_k».proof.Proof.Gen.KernelIdeal.Frame
public import Idealize.ShloMosaic.Lib.Pipeline.ValueKit.Geometry

/-! # Which blocks a grid point works on

Point `t` of the grid is row `t / 11`, column `t % 11`. -/

@[expose] public section

set_option maxRecDepth 16384

noncomputable section

namespace Cert.Proof.KernelIdeal

open Cert.KernelIdeal Cert.KernelIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A point's row in the grid. -/
theorem coords0 (t : Fin grid0.N) : (grid0.coords t 0).val = t.val / 11 :=
  (by decide +kernel : ∀ t : Fin grid0.N, (grid0.coords t 0).val = t.val / 11) t

/-- A point's column in the grid. -/
theorem coords1 (t : Fin grid0.N) : (grid0.coords t 1).val = t.val % 11 :=
  (by decide +kernel : ∀ t : Fin grid0.N, (grid0.coords t 1).val = t.val % 11) t

/-- The chunk that point `t` quantises. -/
def chunk (t : ℕ) : ℕ := min (8 * (t / 11) + min (t % 11) 7) 191

/-- The block of output columns that point `t` works on. -/
def colBlock (t : ℕ) : ℕ := if t / 11 = 0 then 0 else t % 11

/-- Which block of the activations a point works on. -/
theorem idx0 : ∀ t : Fin grid0.N, win0_0.index t = ![chunk t.val, 0] := by decide +kernel
/-- Which block of the smoothing factors a point works on. -/
theorem idx1 : ∀ t : Fin grid0.N, win0_1.index t = ![0, 0] := by decide +kernel
/-- Which block of the weights a point works on. -/
theorem idx2 : ∀ t : Fin grid0.N, win0_2.index t = ![colBlock t.val, 0] := by decide +kernel
/-- Which block of the channel scales a point works on. -/
theorem idx3 : ∀ t : Fin grid0.N, win0_3.index t = ![0, colBlock t.val] := by decide +kernel
/-- Which block of the outputs a point works on. -/
theorem idx4 : ∀ t : Fin grid0.N, win0_4.index t = ![t.val / 11 - 1, colBlock t.val] := by decide +kernel
/-- Which block of the codes a point works on. -/
theorem idx5 : ∀ t : Fin grid0.N, win0_5.index t = ![chunk t.val, 0] := by decide +kernel
/-- Which block of the scales a point works on. -/
theorem idx6 : ∀ t : Fin grid0.N, win0_6.index t = ![chunk t.val, 0, 0] := by decide +kernel

/-- There are 192 chunks. -/
theorem chunk_lt (t : ℕ) : chunk t < 192 := by unfold chunk; omega

/-- There are 11 blocks of output columns. -/
theorem colBlock_lt (t : ℕ) : colBlock t < 11 := by unfold colBlock; split <;> omega

/-- In the grid's first row no block of results is written back. -/
theorem flush4_first : ∀ t : Fin grid0.N, t.val / 11 = 0 → win0_4.flush t = false := by decide +kernel

/-- In the grid's first row the results are left alone. -/
theorem idle4_first : ∀ t : Fin grid0.N, t.val / 11 = 0 → cfg0.idle 4 (grid0.coords t) = true := by decide +kernel

/-- In the other rows they are written. -/
theorem idle4_later : ∀ t : Fin grid0.N, t.val / 11 ≠ 0 → cfg0.idle 4 (grid0.coords t) = false := by decide +kernel

/-- In the first row the first branch runs, in odd rows the second, in later even rows the third. -/
theorem conds_first : ∀ t : Fin grid0.N, t.val / 11 = 0 →
    k0_cond1 (grid0.coords t) = 1#1 ∧ ¬ k0_cond2 (grid0.coords t) = 1#1 ∧ ¬ k0_cond3 (grid0.coords t) = 1#1 := by decide +kernel

/-- In odd rows the second branch runs, alone. -/
theorem conds_odd : ∀ t : Fin grid0.N, t.val / 11 % 2 = 1 →
    ¬ k0_cond1 (grid0.coords t) = 1#1 ∧ k0_cond2 (grid0.coords t) = 1#1 ∧ ¬ k0_cond3 (grid0.coords t) = 1#1 := by decide +kernel

/-- In later even rows the third branch runs, alone. -/
theorem conds_even : ∀ t : Fin grid0.N, t.val / 11 ≠ 0 → t.val / 11 % 2 = 0 →
    ¬ k0_cond1 (grid0.coords t) = 1#1 ∧ ¬ k0_cond2 (grid0.coords t) = 1#1 ∧ k0_cond3 (grid0.coords t) = 1#1 := by decide +kernel

/-! ## Where a block's elements lie -/

/-- Where an element of a point's block of activations lies in its array. -/
theorem emb0 (t : Fin grid0.N) (r : Fin 128) (k : Fin 8192) :
    (((cfg0.win 0).blk t).view.emb (ix2 r k) : S24576x8192.Idx) = ix2 ⟨128 * chunk t.val + r.1, by have := chunk_lt t.val; omega⟩ k := by
  have e0 : win0_0.index t (0 : Fin 2) = chunk t.val := congrFun (idx0 t) 0
  have e1 : win0_0.index t (1 : Fin 2) = 0 := congrFun (idx0 t) 1
  funext a; apply Fin.ext
  match a with
  | ⟨0, _⟩ => show win0_0.index t (0 : Fin 2) * 128 + 1 * r.val = 128 * chunk t.val + r.1; omega
  | ⟨1, _⟩ => show win0_0.index t (1 : Fin 2) * 8192 + 1 * k.val = k.val; omega

/-- Where an element of a point's block of smoothing factors lies in its array. -/
theorem emb1 (t : Fin grid0.N) (k : Fin 8192) : (((cfg0.win 1).blk t).view.emb (ix2 0 k) : S1x8192.Idx) = ix2 0 k := by
  have e0 : win0_1.index t (0 : Fin 2) = 0 := congrFun (idx1 t) 0
  have e1 : win0_1.index t (1 : Fin 2) = 0 := congrFun (idx1 t) 1
  funext a; apply Fin.ext
  match a with
  | ⟨0, _⟩ => show win0_1.index t (0 : Fin 2) * 1 + 1 * 0 = 0; omega
  | ⟨1, _⟩ => show win0_1.index t (1 : Fin 2) * 8192 + 1 * k.val = k.val; omega

/-- Where an element of a point's block of weights lies in its array. -/
theorem emb2 (t : Fin grid0.N) (r : Fin 1024) (k : Fin 8192) :
    (((cfg0.win 2).blk t).view.emb (ix2 r k) : S11264x8192.Idx) = ix2 ⟨1024 * colBlock t.val + r.1, by have := colBlock_lt t.val; omega⟩ k := by
  have e0 : win0_2.index t (0 : Fin 2) = colBlock t.val := congrFun (idx2 t) 0
  have e1 : win0_2.index t (1 : Fin 2) = 0 := congrFun (idx2 t) 1
  funext a; apply Fin.ext
  match a with
  | ⟨0, _⟩ => show win0_2.index t (0 : Fin 2) * 1024 + 1 * r.val = 1024 * colBlock t.val + r.1; omega
  | ⟨1, _⟩ => show win0_2.index t (1 : Fin 2) * 8192 + 1 * k.val = k.val; omega

/-- Where an element of a point's block of channel scales lies in its array. -/
theorem emb3 (t : Fin grid0.N) (k : Fin 1024) :
    (((cfg0.win 3).blk t).view.emb (ix2 0 k) : S1x11264.Idx) = ix2 0 ⟨1024 * colBlock t.val + k.1, by have := colBlock_lt t.val; omega⟩ := by
  have e0 : win0_3.index t (0 : Fin 2) = 0 := congrFun (idx3 t) 0
  have e1 : win0_3.index t (1 : Fin 2) = colBlock t.val := congrFun (idx3 t) 1
  funext a; apply Fin.ext
  match a with
  | ⟨0, _⟩ => show win0_3.index t (0 : Fin 2) * 1 + 1 * 0 = 0; omega
  | ⟨1, _⟩ => show win0_3.index t (1 : Fin 2) * 1024 + 1 * k.val = 1024 * colBlock t.val + k.1; omega

/-- Where an element of a point's block of outputs lies in its array. -/
theorem emb4 (t : Fin grid0.N) (r : Fin 1024) (k : Fin 1024) :
    (((cfg0.win 4).blk t).view.emb (ix2 r k) : S24576x11264.Idx)
      = ix2 ⟨1024 * (t.val / 11 - 1) + r.1, by have : t.val < 275 := lt_of_lt_of_eq t.2 N_0; omega⟩ ⟨1024 * colBlock t.val + k.1, by have := colBlock_lt t.val; omega⟩ := by
  have e0 : win0_4.index t (0 : Fin 2) = t.val / 11 - 1 := congrFun (idx4 t) 0
  have e1 : win0_4.index t (1 : Fin 2) = colBlock t.val := congrFun (idx4 t) 1
  funext a; apply Fin.ext
  match a with
  | ⟨0, _⟩ => show win0_4.index t (0 : Fin 2) * 1024 + 1 * r.val = 1024 * (t.val / 11 - 1) + r.1; omega
  | ⟨1, _⟩ => show win0_4.index t (1 : Fin 2) * 1024 + 1 * k.val = 1024 * colBlock t.val + k.1; omega

/-- Where an element of a point's block of codes lies in its array. -/
theorem emb5 (t : Fin grid0.N) (r : Fin 128) (k : Fin 8192) :
    (((cfg0.win 5).blk t).view.emb (ix2 r k) : S24576x8192.Idx) = ix2 ⟨128 * chunk t.val + r.1, by have := chunk_lt t.val; omega⟩ k := by
  have e0 : win0_5.index t (0 : Fin 2) = chunk t.val := congrFun (idx5 t) 0
  have e1 : win0_5.index t (1 : Fin 2) = 0 := congrFun (idx5 t) 1
  funext a; apply Fin.ext
  match a with
  | ⟨0, _⟩ => show win0_5.index t (0 : Fin 2) * 128 + 1 * r.val = 128 * chunk t.val + r.1; omega
  | ⟨1, _⟩ => show win0_5.index t (1 : Fin 2) * 8192 + 1 * k.val = k.val; omega

/-- Where an element of a point's block of scales lies in its array. -/
theorem emb6 (t : Fin grid0.N) (l : Fin 128) :
    (((cfg0.win 6).blk t).view.emb (ix3 0 0 l) : S192x1x128.Idx) = ix3 ⟨chunk t.val, chunk_lt t.val⟩ 0 l := by
  have e0 : win0_6.index t (0 : Fin 3) = chunk t.val := congrFun (idx6 t) 0
  have e1 : win0_6.index t (1 : Fin 3) = 0 := congrFun (idx6 t) 1
  have e2 : win0_6.index t (2 : Fin 3) = 0 := congrFun (idx6 t) 2
  funext a; apply Fin.ext
  match a with
  | ⟨0, _⟩ => show win0_6.index t (0 : Fin 3) * 1 + 1 * 0 = chunk t.val; omega
  | ⟨1, _⟩ => show win0_6.index t (1 : Fin 3) * 1 + 1 * 0 = 0; omega
  | ⟨2, _⟩ => show win0_6.index t (2 : Fin 3) * 128 + 1 * l.val = l.val; omega

/-- The blocks written back cover each output. -/
theorem covers4 : win0_4.Covers := by decide +kernel
/-- The blocks of codes written back cover their array. -/
theorem covers5 : win0_5.Covers := by decide +kernel
/-- The blocks of scales written back cover their array. -/
theorem covers6 : win0_6.Covers := by decide +kernel

end Cert.Proof.KernelIdeal

end
-- ==== Proof.KernelIdeal.Invariant.lean ====
module

public import proofs.«01_k».proof.Proof.KernelIdeal.Body
public import proofs.«01_k».proof.Proof.KernelIdeal.Geometry

/-! # The invariant of the grid

Two pairs of buffers hold quantised tiles: tile `q` lies in the first pair if `q` is even and in the second if it is odd,
from the points that quantise it to the end of the grid row that multiplies by it. -/

@[expose] public section

set_option maxRecDepth 16384

noncomputable section

namespace Cert.Proof.KernelIdeal

open Cert.KernelIdeal Cert.KernelIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section

variable (xa : S24576x8192.Idx → EReal) (sa : S1x8192.Idx → EReal)

/-- A row of the activations, divided by the smoothing vector. -/
def gRow (r : Fin 24576) : Fin 8192 → EReal := fun k => Ideal.div (xa (ix2 r k)) (sa (ix2 0 k))

/-- A pair of buffers holds the codes and the scales of chunk `p` of tile `q`. -/
def Holds (A : S1024x8192.Idx → EReal) (SA : S1024x128.Idx → EReal) (q : Fin 24) (p : Fin 8) : Prop :=
  ∀ r : Fin 128,
    (∀ k, A (ix2 ⟨128 * p.1 + r.1, by omega⟩ k) = rowCode (gRow xa sa ⟨1024 * q.1 + 128 * p.1 + r.1, by omega⟩) k)
    ∧ ∀ l, SA (ix2 ⟨128 * p.1 + r.1, by omega⟩ l) = rowScale (gRow xa sa ⟨1024 * q.1 + 128 * p.1 + r.1, by omega⟩)

/-- What the four buffers hold before point `n`. -/
def Inv (n : ℕ) (A B : S1024x8192.Idx → EReal) (SA SB : S1024x128.Idx → EReal) : Prop :=
  ∀ (q : Fin 24) (p : Fin 8), 11 * q.1 + p.1 < n → n ≤ 11 * (q.1 + 2) →
    (q.1 % 2 = 0 → Holds xa sa A SA q p) ∧ (q.1 % 2 = 1 → Holds xa sa B SB q p)

/-- Before the first point nothing is asked of the buffers. -/
theorem inv_zero (A B : S1024x8192.Idx → EReal) (SA SB : S1024x128.Idx → EReal) : Inv xa sa 0 A B SA SB :=
  fun _ _ h => absurd h (Nat.not_lt_zero _)

variable {xa sa} {X : S128x8192.Idx → EReal} {S : S1x8192.Idx → EReal} {t : Fin grid0.N}

/-- The rows of a point's block of activations, divided by the smoothing vector. -/
def IsChunk (xa : S24576x8192.Idx → EReal) (sa : S1x8192.Idx → EReal) (X : S128x8192.Idx → EReal) (S : S1x8192.Idx → EReal)
    (t : Fin grid0.N) : Prop :=
  ∀ r : Fin 128, row X S r = gRow xa sa ⟨128 * chunk t.val + r.1, by have := chunk_lt t.val; omega⟩

/-- The chunk that a point writes is held afterwards. -/
theorem holds_new (hX : IsChunk xa sa X S t) (B : S1024x8192.Idx → EReal) (SB : S1024x128.Idx → EReal) (q : Fin 24) (p : Fin 8)
    (hq : q.1 = t.val / 11) (hp : p.1 = min (t.val % 11) 7) :
    Holds xa sa (newCodes X S (grid0.coords t) B) (newScales X S (grid0.coords t) SB) q p := by
  intro r
  have hc := coords1 t
  have hrow : row X S r = gRow xa sa ⟨1024 * q.1 + 128 * p.1 + r.1, by omega⟩ := by
    rw [hX r]; congr 1; apply Fin.ext; show 128 * chunk t.val + r.1 = 1024 * q.1 + 128 * p.1 + r.1; unfold chunk; omega
  have hm : 128 * min (grid0.coords t 1).1 7 ≤ 128 * p.1 + r.1 ∧ 128 * p.1 + r.1 < 128 * min (grid0.coords t 1).1 7 + 128 := by
    rw [hc, ← hp]; omega
  have hr : (⟨128 * p.1 + r.1 - 128 * min (grid0.coords t 1).1 7, by omega⟩ : Fin 128) = r := by
    apply Fin.ext; show 128 * p.1 + r.1 - 128 * min (grid0.coords t 1).1 7 = r.1; rw [hc, ← hp]; omega
  refine ⟨fun k => ?_, fun l => ?_⟩
  · unfold newCodes
    refine (dif_pos hm).trans ?_
    rw [← hrow]
    exact congrArg (fun z => rowCode (row X S z) k) hr
  · unfold newScales
    refine (dif_pos hm).trans ?_
    rw [← hrow]
    exact congrArg (fun z => rowScale (row X S z)) hr

/-- The chunks that a point does not write are kept. -/
theorem holds_keep {B : S1024x8192.Idx → EReal} {SB : S1024x128.Idx → EReal} {q : Fin 24} {p : Fin 8}
    (hp : p.1 ≠ min (t.val % 11) 7) (h : Holds xa sa B SB q p) :
    Holds xa sa (newCodes X S (grid0.coords t) B) (newScales X S (grid0.coords t) SB) q p := by
  intro r
  have hc := coords1 t
  have hm : ¬ (128 * min (grid0.coords t 1).1 7 ≤ 128 * p.1 + r.1 ∧ 128 * p.1 + r.1 < 128 * min (grid0.coords t 1).1 7 + 128) := by
    rw [hc]; omega
  refine ⟨fun k => ?_, fun l => ?_⟩
  · unfold newCodes
    refine (dif_neg hm).trans ?_
    exact (h r).1 k
  · unfold newScales
    refine (dif_neg hm).trans ?_
    exact (h r).2 l

/-- A point of an even grid row writes the first pair. -/
theorem inv_even (he : t.val / 11 % 2 = 0) (hX : IsChunk xa sa X S t) {A B : S1024x8192.Idx → EReal} {SA SB : S1024x128.Idx → EReal}
    (h : Inv xa sa t.val A B SA SB) :
    Inv xa sa (t.val + 1) (newCodes X S (grid0.coords t) A) B (newScales X S (grid0.coords t) SA) SB := by
  intro q p h1 h2
  refine ⟨fun hq => ?_, fun hq => ?_⟩
  · by_cases hp : p.1 = min (t.val % 11) 7
    · exact holds_new hX A SA q p (by omega) hp
    · exact holds_keep hp ((h q p (by omega) (by omega)).1 hq)
  · exact (h q p (by omega) (by omega)).2 hq

/-- A point of an odd grid row writes the second pair. -/
theorem inv_odd (he : t.val / 11 % 2 = 1) (hX : IsChunk xa sa X S t) {A B : S1024x8192.Idx → EReal} {SA SB : S1024x128.Idx → EReal}
    (h : Inv xa sa t.val A B SA SB) :
    Inv xa sa (t.val + 1) A (newCodes X S (grid0.coords t) B) SA (newScales X S (grid0.coords t) SB) := by
  intro q p h1 h2
  refine ⟨fun hq => ?_, fun hq => ?_⟩
  · exact (h q p (by omega) (by omega)).1 hq
  · by_cases hp : p.1 = min (t.val % 11) 7
    · exact holds_new hX B SB q p (by omega) hp
    · exact holds_keep hp ((h q p (by omega) (by omega)).2 hq)

variable (xa sa) (t)

/-- Row `r` of the tile that point `t`'s grid row multiplies by. -/
def tileRow (r : Fin 1024) : Fin 8192 → EReal :=
  gRow xa sa ⟨1024 * (t.val / 11 - 1) + r.1, by have : t.val < 275 := lt_of_lt_of_eq t.2 N_0; omega⟩

variable {xa sa} {t}

/-- A pair of buffers that holds the eight chunks of the tile holds the tile. -/
theorem tile_of_holds {A : S1024x8192.Idx → EReal} {SA : S1024x128.Idx → EReal} (q : Fin 24) (hq : q.1 = t.val / 11 - 1)
    (h : ∀ p, Holds xa sa A SA q p) (r : Fin 1024) :
    (∀ k, A (ix2 r k) = rowCode (tileRow xa sa t r) k) ∧ ∀ l, SA (ix2 r l) = rowScale (tileRow xa sa t r) := by
  have H := h ⟨r.1 / 128, by omega⟩ ⟨r.1 % 128, by omega⟩
  have e1 : (⟨128 * (r.1 / 128) + r.1 % 128, by omega⟩ : Fin 1024) = r := Fin.ext (by show 128 * (r.1 / 128) + r.1 % 128 = r.1; omega)
  have e2 : gRow xa sa ⟨1024 * q.1 + 128 * (r.1 / 128) + r.1 % 128, by omega⟩ = tileRow xa sa t r := by
    unfold tileRow; congr 1; apply Fin.ext
    show 1024 * q.1 + 128 * (r.1 / 128) + r.1 % 128 = 1024 * (t.val / 11 - 1) + r.1; omega
  refine ⟨fun k => ?_, fun l => ?_⟩
  · have := H.1 k
    simp only [e1, e2] at this
    exact this
  · have := H.2 l
    simp only [e1, e2] at this
    exact this

/-- In an odd grid row the first pair holds the tile before. -/
theorem tile_odd (he : t.val / 11 % 2 = 1) {A B : S1024x8192.Idx → EReal} {SA SB : S1024x128.Idx → EReal}
    (h : Inv xa sa t.val A B SA SB) (r : Fin 1024) :
    (∀ k, A (ix2 r k) = rowCode (tileRow xa sa t r) k) ∧ ∀ l, SA (ix2 r l) = rowScale (tileRow xa sa t r) := by
  have ht : t.val < 275 := lt_of_lt_of_eq t.2 N_0
  exact tile_of_holds ⟨t.val / 11 - 1, by omega⟩ rfl
    (fun p => (h _ p (by show 11 * (t.val / 11 - 1) + p.1 < _; omega) (by show _ ≤ 11 * (t.val / 11 - 1 + 2); omega)).1 (by show (t.val / 11 - 1) % 2 = 0; omega)) r

/-- In a later even grid row the second pair holds the tile before. -/
theorem tile_even (h0 : t.val / 11 ≠ 0) (he : t.val / 11 % 2 = 0) {A B : S1024x8192.Idx → EReal} {SA SB : S1024x128.Idx → EReal}
    (h : Inv xa sa t.val A B SA SB) (r : Fin 1024) :
    (∀ k, B (ix2 r k) = rowCode (tileRow xa sa t r) k) ∧ ∀ l, SB (ix2 r l) = rowScale (tileRow xa sa t r) := by
  have ht : t.val < 275 := lt_of_lt_of_eq t.2 N_0
  exact tile_of_holds ⟨t.val / 11 - 1, by omega⟩ rfl
    (fun p => (h _ p (by show 11 * (t.val / 11 - 1) + p.1 < _; omega) (by show _ ≤ 11 * (t.val / 11 - 1 + 2); omega)).2 (by show (t.val / 11 - 1) % 2 = 1; omega)) r

variable (xa sa) (t)

/-- The block of results that point `t` computes. -/
def yTile (W : S1024x8192.Idx → EReal) (WS : S1x1024.Idx → EReal) : S1024x1024.Idx → EReal :=
  yG (fun j => rowCode (tileRow xa sa t (j 0)) (j 1)) W WS (fun r => rowScale (tileRow xa sa t r))

variable {xa sa} {t}

/-- The outputs computed from a tile's codes and scales are the tile's outputs. -/
theorem yG_tile {A : S1024x8192.Idx → EReal} (h : ∀ r k, A (ix2 r k) = rowCode (tileRow xa sa t r) k)
    (W : S1024x8192.Idx → EReal) (WS : S1x1024.Idx → EReal) :
    yG A W WS (fun r => rowScale (tileRow xa sa t r)) = yTile xa sa t W WS := by
  have : A = fun j => rowCode (tileRow xa sa t (j 0)) (j 1) := funext fun j => by
    rw [← h (j 0) (j 1)]; congr 1; funext a; match a with | ⟨0, _⟩ => rfl | ⟨1, _⟩ => rfl
  unfold yTile
  rw [← this]

end

end Cert.Proof.KernelIdeal

end
-- ==== Proof.KernelIdeal.Frame.lean ====
module

public import proofs.«01_k».proof.Proof.KernelIdeal.Invariant
public import Idealize.ShloMosaic.Lib.Claim

/-! # The kernel's run over the extended reals

The invariant is carried through the grid, and with it what every point leaves in the outputs' buffers. -/

@[expose] public section

set_option maxRecDepth 16384

noncomputable section

namespace Cert.Proof.KernelIdeal

open Cert.KernelIdeal Cert.KernelIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The activations, as rows. -/
def xa (c : Dev nD) : S24576x8192.Idx → EReal := V m c main_v0
/-- The smoothing vector. -/
def sa (c : Dev nD) : S1x8192.Idx → EReal := V m c main_v1
/-- The weight codes. -/
def wa (c : Dev nD) : S11264x8192.Idx → EReal := V m c main_arg2
/-- The weight scales. -/
def wsa (c : Dev nD) : S1x11264.Idx → EReal := V m c main_v2

/-- What lives across the grid points: before point `n` the four buffers hold what the invariant says. -/
def held (c : Dev nD) (n : ℕ) : sProp 𝕄 :=
  iprop(∃ A B SA SB, ⌜Inv (xa m c) (sa m c) n A B SA SB⌝
    ∗ owns (c : Thread nD τ) (Memref.whole cc0_scratch0) fullShare A ∗ owns (c : Thread nD τ) (Memref.whole cc0_scratch1) fullShare B
    ∗ owns (c : Thread nD τ) (Memref.whole cc0_scratch2) fullShare SA ∗ owns (c : Thread nD τ) (Memref.whole cc0_scratch3) fullShare SB
    ∗ ∃ r, prngReg c r)

/-- The proof data: the inputs' blocks, and what each point leaves in the outputs' buffers. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yTile (xa m c) (sa m c) t (iblk m c 2 t) (iblk m c 3 t)
    | ⟨5, _⟩ => codes (iblk m c 0 t) (iblk m c 1 t)
    | ⟨6, _⟩ => fun y => rowScale (row (iblk m c 0 t) (iblk m c 1 t) (y 2))
  Φ t := held m c t.val
  q _ := fullShare
  owed _ := 0

/-- Each window's array starts as the region finds it. -/
theorem A_eq (c : Dev nD) (w : Fin cfg0.W) : (dats m 0 c).A w = V m c (Pipeline.arrRef spec0 w) := by dsimp only [dats]

/-- Each input window holds its block before the body runs. -/
theorem before0 (c : Dev nD) (t : Fin cfg0.N) (d) : (dats m 0 c).before 0 t d = iblk m c 0 t :=
  before0_0_of m (dats m 0 c) (A_eq m c 0) (fun _ => rfl) t d
/-- The same of the smoothing factors. -/
theorem before1 (c : Dev nD) (t : Fin cfg0.N) (d) : (dats m 0 c).before 1 t d = iblk m c 1 t :=
  before0_1_of m (dats m 0 c) (A_eq m c 1) (fun _ => rfl) t d
/-- The same of the weights. -/
theorem before2 (c : Dev nD) (t : Fin cfg0.N) (d) : (dats m 0 c).before 2 t d = iblk m c 2 t :=
  before0_2_of m (dats m 0 c) (A_eq m c 2) (fun _ => rfl) t d
/-- The same of the channel scales. -/
theorem before3 (c : Dev nD) (t : Fin cfg0.N) (d) : (dats m 0 c).before 3 t d = iblk m c 3 t :=
  before0_3_of m (dats m 0 c) (A_eq m c 3) (fun _ => rfl) t d

/-- The body that the pipeline calls at a point is the kernel's body on that point's staging buffers. -/
theorem defs₀_row (t : Fin cfg0.N) : defs₀ (F := Ideal) .tc cfg0.body (cfg0.bodyArgs t (cfg0.slots t)) = bodyAt0 t := by
  unfold defs₀; rw [Defs.onTc_tc]

/-- The codes and the scales are written at every point. -/
theorem idle5 : ∀ t : Fin grid0.N, cfg0.idle 5 (grid0.coords t) = false := by decide +kernel
/-- The scales are written at every point. -/
theorem idle6 : ∀ t : Fin grid0.N, cfg0.idle 6 (grid0.coords t) = false := by decide +kernel

/-- The rows of the block that point `t` quantises are rows of the activations. -/
theorem isChunk (c : Dev nD) (t : Fin grid0.N) : IsChunk (xa m c) (sa m c) (iblk m c 0 t) (iblk m c 1 t) t := by
  intro r
  funext k
  show Ideal.div (xa m c (((cfg0.win 0).blk t).view.emb (ix2 r k))) (sa m c (((cfg0.win 1).blk t).view.emb (ix2 0 k))) = _
  rw [emb0, emb1]
  rfl

/-- The results' buffer in a row that leaves it alone. -/
theorem leaves_first (c : Dev nD) (t : Fin cfg0.N) (h : t.val / 11 = 0) :
    (dats m 0 c).leaves 4 t = iprop(∃ d, owns (c : Thread nD τ) (st0_4 t) fullShare ((dats m 0 c).before 4 t d)) :=
  (dats m 0 c).leaves_idle 4 t (idle4_first t h) (flush4_first t h)

/-- The results' buffer in a row that writes it. -/
theorem leaves_later (c : Dev nD) (t : Fin cfg0.N) (h : t.val / 11 ≠ 0) :
    (dats m 0 c).leaves 4 t = owns (c : Thread nD τ) (st0_4 t) fullShare (yTile (xa m c) (sa m c) t (iblk m c 2 t) (iblk m c 3 t)) := by
  unfold Dat.leaves
  rw [idle4_later t h]
  rfl

/-- What a point leaves in the window of codes: its chunk's codes. -/
theorem leaves_codes (c : Dev nD) (t : Fin cfg0.N) :
    (dats m 0 c).leaves 5 t = owns (c : Thread nD τ) (st0_5 t) fullShare (codes (iblk m c 0 t) (iblk m c 1 t)) := by
  unfold Dat.leaves
  rw [idle5 t]
  rfl

/-- What a point leaves in the window of scales: its chunk's scales. -/
theorem leaves_scales (c : Dev nD) (t : Fin cfg0.N) :
    (dats m 0 c).leaves 6 t
      = owns (c : Thread nD τ) (st0_6 t) fullShare (fun y => rowScale (row (iblk m c 0 t) (iblk m c 1 t) (y 2))) := by
  unfold Dat.leaves
  rw [idle6 t]
  rfl

set_option maxHeartbeats 3200000 in
/-- One grid point. -/
theorem sound_body (c : Dev nD) (t : Fin cfg0.N) :
    (iprop(held m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))) : sProp 𝕄)
      ⊢ wp frame (wpE (defs₀ (F := Ideal)) Variants.none c none) Set.univ (bodyAt0 t) fun _ => iprop(held m c (t.val + 1)
        ∗ (dats m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ (dats m 0 c).leaves 4 t
        ∗ (dats m 0 c).leaves 5 t
        ∗ (dats m 0 c).leaves 6 t) := by
  rw [leaves_codes, leaves_scales]
  simp only [before0, before1, before2, before3]
  conv => lhs; unfold held
  by_cases h0 : t.val / 11 = 0
  · rw [leaves_first m c t h0]
    obtain ⟨h1, h2, h3⟩ := conds_first t h0
    iintro ⟨⟨%A, %B, %SA, %SB, %hI, H9, H10, H11, H12, Hg⟩, Howes, ⟨%d2, H2⟩, ⟨%d3, H3⟩, ⟨%d4, H4⟩, ⟨%d5, H5⟩, ⟨%d6, H6⟩, ⟨%d7, H7⟩, ⟨%d8, H8⟩⟩
    iapply (body1 c (grid0.coords t) h1 h2 h3
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
      (iblk m c 0 t) (iblk m c 1 t) (iblk m c 2 t) (iblk m c 3 t) A B SA SB ((dats m 0 c).before 4 t d6) Set.univ _)
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexact H11
    isplitl [H12]; · iexact H12
    iintro ⟨H2, H3, H4, H5, H6, H7, H8, H9, H10, H11, H12⟩
    isplitl [H9 H10 H11 H12 Hg]
    · unfold held
      iexists _; iexists _; iexists _; iexists _
      isplitr
      · ipureintro; exact inv_even (by omega) (isChunk m c t) hI
      isplitl [H9]; · iexact H9
      isplitl [H10]; · iexact H10
      isplitl [H11]; · iexact H11
      isplitl [H12]; · iexact H12
      iexact Hg
    isplitl [Howes]; · iexact Howes
    isplitl [H2]; · iexact H2
    isplitl [H3]; · iexact H3
    isplitl [H4]; · iexact H4
    isplitl [H5]; · iexact H5
    isplitl [H6]; · iexists d6; iexact H6
    isplitl [H7]; · iexact H7
    iexact H8
  · rw [leaves_later m c t h0]
    by_cases he : t.val / 11 % 2 = 1
    · obtain ⟨h1, h2, h3⟩ := conds_odd t he
      iintro ⟨⟨%A, %B, %SA, %SB, %hI, H9, H10, H11, H12, Hg⟩, Howes, ⟨%d2, H2⟩, ⟨%d3, H3⟩, ⟨%d4, H4⟩, ⟨%d5, H5⟩, ⟨%d6, H6⟩, ⟨%d7, H7⟩, ⟨%d8, H8⟩⟩
      have hT := fun r => tile_odd he hI r
      rw [← yG_tile (fun r k => (hT r).1 k)]
      iapply (body2 c (grid0.coords t) h1 h2 h3
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
        (iblk m c 0 t) (iblk m c 1 t) (iblk m c 2 t) (iblk m c 3 t) A B SA SB
        (fun r => rowScale (tileRow (xa m c) (sa m c) t r)) (fun r l => (hT r).2 l) Set.univ _)
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [H10]; · iexact H10
      isplitl [H11]; · iexact H11
      isplitl [H12]; · iexact H12
      iintro ⟨H2, H3, H4, H5, H6, H7, H8, H9, H10, H11, H12⟩
      isplitl [H9 H10 H11 H12 Hg]
      · unfold held
        iexists _; iexists _; iexists _; iexists _
        isplitr
        · ipureintro; exact inv_odd he (isChunk m c t) hI
        isplitl [H9]; · iexact H9
        isplitl [H10]; · iexact H10
        isplitl [H11]; · iexact H11
        isplitl [H12]; · iexact H12
        iexact Hg
      isplitl [Howes]; · iexact Howes
      isplitl [H2]; · iexact H2
      isplitl [H3]; · iexact H3
      isplitl [H4]; · iexact H4
      isplitl [H5]; · iexact H5
      isplitl [H6]; · iexact H6
      isplitl [H7]; · iexact H7
      iexact H8
    · have he' : t.val / 11 % 2 = 0 := by omega
      obtain ⟨h1, h2, h3⟩ := conds_even t h0 he'
      iintro ⟨⟨%A, %B, %SA, %SB, %hI, H9, H10, H11, H12, Hg⟩, Howes, ⟨%d2, H2⟩, ⟨%d3, H3⟩, ⟨%d4, H4⟩, ⟨%d5, H5⟩, ⟨%d6, H6⟩, ⟨%d7, H7⟩, ⟨%d8, H8⟩⟩
      have hT := fun r => tile_even h0 he' hI r
      rw [← yG_tile (fun r k => (hT r).1 k)]
      iapply (body3 c (grid0.coords t) h1 h2 h3
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
        (iblk m c 0 t) (iblk m c 1 t) (iblk m c 2 t) (iblk m c 3 t) A B SA SB
        (fun r => rowScale (tileRow (xa m c) (sa m c) t r)) (fun r l => (hT r).2 l) Set.univ _)
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [H10]; · iexact H10
      isplitl [H11]; · iexact H11
      isplitl [H12]; · iexact H12
      iintro ⟨H2, H3, H4, H5, H6, H7, H8, H9, H10, H11, H12⟩
      isplitl [H9 H10 H11 H12 Hg]
      · unfold held
        iexists _; iexists _; iexists _; iexists _
        isplitr
        · ipureintro; exact inv_even he' (isChunk m c t) hI
        isplitl [H9]; · iexact H9
        isplitl [H10]; · iexact H10
        isplitl [H11]; · iexact H11
        isplitl [H12]; · iexact H12
        iexact Hg
      isplitl [Howes]; · iexact Howes
      isplitl [H2]; · iexact H2
      isplitl [H3]; · iexact H3
      isplitl [H4]; · iexact H4
      isplitl [H5]; · iexact H5
      isplitl [H6]; · iexact H6
      isplitl [H7]; · iexact H7
      iexact H8

set_option maxHeartbeats 1600000 in
/-- The body obligation, at every grid point. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-- Before the grid the scratch buffers hold anything, which is what is asked before point 0. -/
theorem held_in (c : Dev nD) : Pipeline.ΦA spec0 c ⊢ held m c 0 := by
  unfold Pipeline.ΦA held
  rw [scopedRest0_eq]
  simp only [owns_eq c _ (Memref.isWhole_whole _)]
  iintro ⟨⟨⟨%f9, H9⟩, ⟨%f10, H10⟩, ⟨%f11, H11⟩, ⟨%f12, H12⟩⟩, Hg⟩
  iexists f9; iexists f10; iexists f11; iexists f12
  isplitr
  · ipureintro; exact inv_zero _ _ _ _ _ _
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexact Hg

/-- After the grid what the scratch buffers hold is forgotten. -/
theorem held_out (c : Dev nD) (n : ℕ) : held m c n ⊢ Pipeline.ΦA spec0 c := by
  unfold Pipeline.ΦA held
  rw [scopedRest0_eq]
  simp only [owns_eq c _ (Memref.isWhole_whole _)]
  iintro ⟨%A, %B, %SA, %SB, -, ⟨%f9, -, H9⟩, ⟨%f10, -, H10⟩, ⟨%f11, -, H11⟩, ⟨%f12, -, H12⟩, Hg⟩
  isplitr [Hg]
  · isplitl [H9]; · iexists f9; iexact H9
    isplitl [H10]; · iexists f10; iexact H10
    isplitl [H11]; · iexists f11; iexact H11
    iexists f12; iexact H12
  · iexact Hg

set_option backward.isDefEq.respectTransparency.types false in
set_option maxHeartbeats 800000 in
/-- The run: every final state has the arrays at what the proof data say and every semaphore counter at zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => held_in m c) (hout := fun c => held_out m c _)

/-- The frame claim: the arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.KernelIdeal

end
-- ==== Proof.Math.Layer.lean ====
module

public import proofs.«01_k».proof.Proof.Math.Row

/-! # The layer as mathematics

The three results as functions of the four arguments: each token's activations divided by the smoothing vector, its scale,
its codes, and the product of the codes with the weight codes, rescaled. -/

@[expose] public section

noncomputable section

namespace Cert.Proof.Math

open Idealize.ShloMosaic

variable (x : Fin 6 → Fin 4096 → Fin 8192 → EReal) (s : Fin 8192 → EReal) (w : Fin 11264 → Fin 8192 → EReal) (ws : Fin 11264 → EReal)

/-- A token's activations divided by the smoothing vector. -/
def token (b : Fin 6) (t : Fin 4096) : Fin 8192 → EReal := fun k => Ideal.div (x b t k) (s k)

/-- A token's codes. -/
def tokenCode (b : Fin 6) (t : Fin 4096) (k : Fin 8192) : EReal := rowCode (token x s b t) k

/-- A token's scale. -/
def tokenScale (b : Fin 6) (t : Fin 4096) : EReal := rowScale (token x s b t)

/-- The layer's output at a token and an output channel. -/
def layer (b : Fin 6) (t : Fin 4096) (n : Fin 11264) : EReal :=
  (∑ k, tokenCode x s b t k * w n k) * tokenScale x s b t * ws n

end Cert.Proof.Math

end
-- ==== Proof.KernelIdeal.Values.lean ====
module

public import proofs.«01_k».proof.Proof.KernelIdeal.Frame
public import proofs.«01_k».proof.Proof.Math.Layer
public import Idealize.ShloMosaic.Lib.StableHlo.RunRead

/-! # The kernel's results

The arrays that the grid leaves, and through the reshapes before and after it the three results as functions of the
arguments. -/

@[expose] public section

set_option maxRecDepth 16384

noncomputable section

namespace Cert.Proof.KernelIdeal

open Cert.KernelIdeal Cert.KernelIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The array of outputs. -/
def yArr (c : Dev nD) : S24576x11264.Idx → EReal := fun y =>
  (∑ k, rowCode (gRow (xa m c) (sa m c) (y 0)) k * wa m c (ix2 (y 1) k)) * rowScale (gRow (xa m c) (sa m c) (y 0)) * wsa m c (ix2 0 (y 1))

/-- The array of codes. -/
def codeArr (c : Dev nD) : S24576x8192.Idx → EReal := fun y => rowCode (gRow (xa m c) (sa m c) (y 0)) (y 1)

/-- The array of scales, 128 rows to a block. -/
def scaleArr (c : Dev nD) : S192x1x128.Idx → EReal := fun y =>
  rowScale (gRow (xa m c) (sa m c) ⟨128 * (y 0).val + (y 2).val, by have h0 : (y 0).val < 192 := (y 0).isLt; have h2 : (y 2).val < 128 := (y 2).isLt; omega⟩)

/-- The array of outputs at a row and a column. -/
theorem yArr_apply (c : Dev nD) (r : Fin 24576) (n : Fin 11264) : yArr m c (ix2 r n)
    = (∑ k, rowCode (gRow (xa m c) (sa m c) r) k * wa m c (ix2 n k)) * rowScale (gRow (xa m c) (sa m c) r) * wsa m c (ix2 0 n) := rfl

/-- A tile's outputs at a row and a column. -/
theorem yTile_apply (xa : S24576x8192.Idx → EReal) (sa : S1x8192.Idx → EReal) (t : Fin grid0.N) (W : S1024x8192.Idx → EReal)
    (WS : S1x1024.Idx → EReal) (a b : Fin 1024) : yTile xa sa t W WS (ix2 a b)
      = (∑ k, rowCode (tileRow xa sa t a) k * W (ix2 b k)) * rowScale (tileRow xa sa t a) * WS (ix2 0 b) := rfl

/-- A point's block of weights, read from the array. -/
theorem iblk2_apply (c : Dev nD) (t : Fin cfg0.N) (r : Fin 1024) (k : Fin 8192) : (iblk m c 2 t : S1024x8192.Idx → EReal) (ix2 r k)
    = wa m c (ix2 ⟨1024 * colBlock t.val + r.1, by have := colBlock_lt t.val; omega⟩ k) := by
  show wa m c (((cfg0.win 2).blk t).view.emb (ix2 r k)) = _
  rw [emb2]

/-- A point's block of channel scales, read from the array. -/
theorem iblk3_apply (c : Dev nD) (t : Fin cfg0.N) (k : Fin 1024) : (iblk m c 3 t : S1x1024.Idx → EReal) (ix2 0 k)
    = wsa m c (ix2 0 ⟨1024 * colBlock t.val + k.1, by have := colBlock_lt t.val; omega⟩) := by
  show wsa m c (((cfg0.win 3).blk t).view.emb (ix2 0 k)) = _
  rw [emb3]

/-- A block of outputs is its part of the array. -/
theorem yTile_eq (c : Dev nD) (t : Fin cfg0.N) (a b : Fin 1024) :
    yTile (xa m c) (sa m c) t (iblk m c 2 t) (iblk m c 3 t) (ix2 a b) = yArr m c (((cfg0.win 4).blk t).view.emb (ix2 a b)) := by
  rw [emb4, yTile_apply, yArr_apply, iblk3_apply]
  simp only [iblk2_apply]
  unfold tileRow
  with_reducible rfl

/-- After the grid the array of outputs holds the outputs of every row. -/
theorem arr_y (c : Dev nD) : (dats m 0 c).arrAt 4 cfg0.N = yArr m c :=
  (dats m 0 c).arrAt_eq_of_covers 4 (yArr m c) covers4 fun t hf (y : S1024x1024.Idx) => by
    obtain ⟨a, b, rfl⟩ : ∃ (a : Fin 1024) (b : Fin 1024), y = ix2 a b := ⟨y 0, y 1, funext fun a => by match a with | ⟨0, _⟩ => rfl | ⟨1, _⟩ => rfl⟩
    exact yTile_eq m c t a b

/-- After the grid the array of codes holds the codes of every row. -/
theorem arr_codes (c : Dev nD) : (dats m 0 c).arrAt 5 cfg0.N = codeArr m c :=
  (dats m 0 c).arrAt_eq_of_covers 5 (codeArr m c) covers5 fun t hf (y : S128x8192.Idx) => by
    obtain ⟨a, b, rfl⟩ : ∃ (a : Fin 128) (b : Fin 8192), y = ix2 a b := ⟨y 0, y 1, funext fun a => by match a with | ⟨0, _⟩ => rfl | ⟨1, _⟩ => rfl⟩
    show rowCode (row (iblk m c 0 t) (iblk m c 1 t) a) b = codeArr m c (((cfg0.win 5).blk t).view.emb (ix2 a b))
    rw [emb5, isChunk m c t a]
    rfl

/-- After the grid the array of scales holds the scale of every row. -/
theorem arr_scales (c : Dev nD) : (dats m 0 c).arrAt 6 cfg0.N = scaleArr m c :=
  (dats m 0 c).arrAt_eq_of_covers 6 (scaleArr m c) covers6 fun t hf (y : S1x1x128.Idx) => by
    obtain ⟨l, rfl⟩ : ∃ (l : Fin 128), y = ix3 0 0 l := ⟨y 2, funext fun a => by
      match a with
      | ⟨0, _⟩ => exact Subsingleton.elim (α := Fin 1) _ _
      | ⟨1, _⟩ => exact Subsingleton.elim (α := Fin 1) _ _
      | ⟨2, _⟩ => rfl⟩
    show rowScale (row (iblk m c 0 t) (iblk m c 1 t) l) = scaleArr m c (((cfg0.win 6).blk t).view.emb (ix3 0 0 l))
    rw [emb6, isChunk m c t l]
    rfl

/-! ## The reshapes before the grid -/

/-- The grid's activations are the argument's, reshaped. -/
theorem V_v0 (c : Dev nD) : V m c main_v0 = shapeCast S24576x8192 (m ((c.tc : Thread nD τ).loc main_arg0)) shapeCasts_S6x4096x8192_S24576x8192 := by
  show StableHlo.after (List.flatten [hostOps0]) (fun b => m (c, b)) (Proc.devRef .tc main_v0) = _
  simp only [hostOps0, List.flatten_cons, List.flatten_nil, List.append_nil]
  after_results
  rfl

/-- The grid's smoothing factors are the argument's, reshaped. -/
theorem V_v1 (c : Dev nD) : V m c main_v1 = shapeCast S1x8192 (m ((c.tc : Thread nD τ).loc main_arg1)) shapeCasts_S8192_S1x8192 := by
  show StableHlo.after (List.flatten [hostOps0]) (fun b => m (c, b)) (Proc.devRef .tc main_v1) = _
  simp only [hostOps0, List.flatten_cons, List.flatten_nil, List.append_nil]
  after_results
  rfl

/-- The grid's channel scales are the argument's, reshaped. -/
theorem V_v2 (c : Dev nD) : V m c main_v2 = shapeCast S1x11264 (m ((c.tc : Thread nD τ).loc main_arg3)) shapeCasts_S11264_S1x11264 := by
  show StableHlo.after (List.flatten [hostOps0]) (fun b => m (c, b)) (Proc.devRef .tc main_v2) = _
  simp only [hostOps0, List.flatten_cons, List.flatten_nil, List.append_nil]
  after_results
  rfl

/-- The arguments as functions of their coordinates. -/
def argX (c : Dev nD) (b : Fin 6) (t : Fin 4096) (k : Fin 8192) : EReal := m ((c.tc : Thread nD τ).loc main_arg0) (ix3 b t k)
/-- The smoothing factors by column. -/
def argS (c : Dev nD) (k : Fin 8192) : EReal := m ((c.tc : Thread nD τ).loc main_arg1) (ix1 k)
/-- The weights by output channel and column. -/
def argW (c : Dev nD) (n : Fin 11264) (k : Fin 8192) : EReal := m ((c.tc : Thread nD τ).loc main_arg2) (ix2 n k)
/-- The channel scales by output channel. -/
def argWs (c : Dev nD) (n : Fin 11264) : EReal := m ((c.tc : Thread nD τ).loc main_arg3) (ix1 n)

/-- Flattening batches and tokens: row `4096 b + t` is token `t` of batch `b`. -/
theorem cast_rows (v : S6x4096x8192.Idx → EReal) (b : Fin 6) (t : Fin 4096) (k : Fin 8192) :
    shapeCast S24576x8192 v shapeCasts_S6x4096x8192_S24576x8192 (ix2 ⟨b.val * 4096 + t.val, by omega⟩ k) = v (ix3 b t k) := by pointwise

/-- The smoothing factors as one row. -/
theorem cast_smooth (v : S8192.Idx → EReal) (k : Fin 8192) : shapeCast S1x8192 v shapeCasts_S8192_S1x8192 (ix2 0 k) = v (ix1 k) := by pointwise

/-- The channel scales as one row. -/
theorem cast_channel (v : S11264.Idx → EReal) (n : Fin 11264) : shapeCast S1x11264 v shapeCasts_S11264_S1x11264 (ix2 0 n) = v (ix1 n) := by pointwise

/-- Row `4096 b + t` is token `t` of batch `b`. -/
theorem xa_eq (c : Dev nD) (b : Fin 6) (t : Fin 4096) (k : Fin 8192) :
    xa m c (ix2 ⟨b.val * 4096 + t.val, by omega⟩ k) = argX m c b t k := by
  unfold xa argX; rw [V_v0]; exact cast_rows _ b t k

/-- The grid's smoothing factors by column. -/
theorem sa_eq (c : Dev nD) (k : Fin 8192) : sa m c (ix2 0 k) = argS m c k := by
  unfold sa argS; rw [V_v1]; exact cast_smooth _ k

/-- The grid's smoothed row is the token's. -/
theorem gRow_token (c : Dev nD) (b : Fin 6) (t : Fin 4096) :
    gRow (xa m c) (sa m c) ⟨b.val * 4096 + t.val, by omega⟩ = token (argX m c) (argS m c) b t := by
  funext k
  unfold gRow Math.token
  rw [xa_eq, sa_eq]

/-- The grid's weights are the argument's. -/
theorem wa_eq (c : Dev nD) (n : Fin 11264) (k : Fin 8192) : wa m c (ix2 n k) = argW m c n k := by
  unfold wa argW; rw [V_main_arg2]

/-- The grid's channel scales by output channel. -/
theorem wsa_eq (c : Dev nD) (n : Fin 11264) : wsa m c (ix2 0 n) = argWs m c n := by
  unfold wsa argWs; rw [V_v2]; exact cast_channel _ n

/-! ## The reshapes after the grid -/

/-- The first result is the array of outputs, reshaped. -/
theorem W_v4 (c : Dev nD) : Pipeline.afterTail₀ cfgs (dats m) 0 (V0 m) [hostOps1] c main_v4
    = shapeCast S6x4096x11264 ((dats m 0 c).arrAt 4 cfg0.N) shapeCasts_S24576x11264_S6x4096x11264 := by
  unfold Pipeline.afterTail₀
  simp only [hostOps1, List.flatten_cons, List.flatten_nil, List.append_nil]
  after_results
  exact congrArg (fun z => shapeCast S6x4096x11264 z shapeCasts_S24576x11264_S6x4096x11264)
    (Pipeline.withArrays_arr (cfgs 0).spec launch0.win.arr_inj c (V0 m c) (fun w => (dats m 0 c).arrAt w cfg0.N) 4)

/-- The second result is the array of codes, reshaped. -/
theorem W_v5 (c : Dev nD) : Pipeline.afterTail₀ cfgs (dats m) 0 (V0 m) [hostOps1] c main_v5
    = shapeCast S6x4096x8192 ((dats m 0 c).arrAt 5 cfg0.N) shapeCasts_S24576x8192_S6x4096x8192 := by
  unfold Pipeline.afterTail₀
  simp only [hostOps1, List.flatten_cons, List.flatten_nil, List.append_nil]
  after_results
  exact congrArg (fun z => shapeCast S6x4096x8192 z shapeCasts_S24576x8192_S6x4096x8192)
    (Pipeline.withArrays_arr (cfgs 0).spec launch0.win.arr_inj c (V0 m c) (fun w => (dats m 0 c).arrAt w cfg0.N) 5)

/-- The third result is the array of scales, reshaped. -/
theorem W_v6 (c : Dev nD) : Pipeline.afterTail₀ cfgs (dats m) 0 (V0 m) [hostOps1] c main_v6
    = shapeCast S6x4096x1 ((dats m 0 c).arrAt 6 cfg0.N) shapeCasts_S192x1x128_S6x4096x1 := by
  unfold Pipeline.afterTail₀
  simp only [hostOps1, List.flatten_cons, List.flatten_nil, List.append_nil]
  after_results
  exact congrArg (fun z => shapeCast S6x4096x1 z shapeCasts_S192x1x128_S6x4096x1)
    (Pipeline.withArrays_arr (cfgs 0).spec launch0.win.arr_inj c (V0 m c) (fun w => (dats m 0 c).arrAt w cfg0.N) 6)

/-! ## The results -/

/-- Two functions of a rank-3 index that agree at every three coordinates are equal. -/
theorem ext3 {α : Type} {p q r : ℕ} {f g : (⟨3, ![p, q, r]⟩ : Shape).Idx → α}
    (h : ∀ (a : Fin p) (b : Fin q) (c : Fin r), f (ix3 a b c) = g (ix3 a b c)) : f = g := by
  funext j
  have e : j = ix3 (j 0) (j 1) (j 2) := funext fun a => by match a with | ⟨0, _⟩ => rfl | ⟨1, _⟩ => rfl | ⟨2, _⟩ => rfl
  rw [e]
  exact h _ _ _

/-- The first result: the layer's outputs. -/
theorem result_y (c : Dev nD) : Pipeline.afterTail₀ cfgs (dats m) 0 (V0 m) [hostOps1] c main_v4
    = fun j : S6x4096x11264.Idx => layer (argX m c) (argS m c) (argW m c) (argWs m c) (j 0) (j 1) (j 2) := by
  rw [W_v4, arr_y]
  refine ext3 fun b t n => ?_
  have e : shapeCast S6x4096x11264 (yArr m c) shapeCasts_S24576x11264_S6x4096x11264 (ix3 b t n) = yArr m c (ix2 ⟨b.val * 4096 + t.val, by omega⟩ n) := by
    pointwise
  rw [e, yArr_apply, gRow_token, wsa_eq]
  simp only [wa_eq]
  rfl

/-- The second result: the tokens' codes. -/
theorem result_codes (c : Dev nD) : Pipeline.afterTail₀ cfgs (dats m) 0 (V0 m) [hostOps1] c main_v5
    = fun j : S6x4096x8192.Idx => tokenCode (argX m c) (argS m c) (j 0) (j 1) (j 2) := by
  rw [W_v5, arr_codes]
  refine ext3 fun b t k => ?_
  have e : shapeCast S6x4096x8192 (codeArr m c) shapeCasts_S24576x8192_S6x4096x8192 (ix3 b t k) = codeArr m c (ix2 ⟨b.val * 4096 + t.val, by omega⟩ k) := by
    pointwise
  rw [e]
  show rowCode (gRow (xa m c) (sa m c) ⟨b.val * 4096 + t.val, by omega⟩) k = rowCode (token (argX m c) (argS m c) b t) k
  rw [gRow_token]

/-- The third result: the tokens' scales. -/
theorem result_scales (c : Dev nD) : Pipeline.afterTail₀ cfgs (dats m) 0 (V0 m) [hostOps1] c main_v6
    = fun j : S6x4096x1.Idx => tokenScale (argX m c) (argS m c) (j 0) (j 1) := by
  rw [W_v6, arr_scales]
  refine ext3 fun b t u => ?_
  obtain rfl : u = 0 := Subsingleton.elim _ _
  have e : shapeCast S6x4096x1 (scaleArr m c) shapeCasts_S192x1x128_S6x4096x1 (ix3 b t 0)
      = scaleArr m c (ix3 ⟨(b.val * 4096 + t.val) / 128, by omega⟩ 0 ⟨(b.val * 4096 + t.val) % 128, by omega⟩) :=
    congrArg (scaleArr m c) (Shape.reshapeEquiv_eq_of_vals _ _ _ (b.val * 4096 + t.val) (b.val * 4096 + t.val)
      (by rw [rowMajor_val3 _ 128 128 rfl rfl]; show (b.val * 4096 + t.val) / 128 * 128 + 0 * 128 + (b.val * 4096 + t.val) % 128 = _; omega)
      (by rw [rowMajor_val3 _ 4096 1 rfl rfl]; show b.val * 4096 + t.val * 1 + 0 = _; omega) rfl)
  rw [e]
  show rowScale (gRow (xa m c) (sa m c) ⟨128 * ((b.val * 4096 + t.val) / 128) + (b.val * 4096 + t.val) % 128, _⟩) = rowScale (token (argX m c) (argS m c) b t)
  rw [← gRow_token]
  congr 2
  apply Fin.ext
  show 128 * ((b.val * 4096 + t.val) / 128) + (b.val * 4096 + t.val) % 128 = b.val * 4096 + t.val
  omega

end Cert.Proof.KernelIdeal

end
-- ==== Proof.KernelIdeal.Result.lean ====
module

public import proofs.«01_k».proof.Proof.KernelIdeal.Values

/-! # The kernel's run

Every run of the kernel ends with the three results of the layer and with the arguments unchanged. -/

@[expose] public section

set_option maxRecDepth 16384

noncomputable section

namespace Cert.Proof.KernelIdeal

open Cert.KernelIdeal Cert.KernelIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- Every run of the kernel ends with the layer's outputs, codes and scales, and the arguments unchanged. -/
theorem run_values : θ_run defs (onTc (τ := τ) (main (F := Ideal))) ⟨m, fun _ => 0, ρ⟩ (fun r => ∀ c : Dev nD,
      r.2.mem ((c.tc : Thread nD τ).loc main_v4) = (fun j : S6x4096x11264.Idx => layer (argX m c) (argS m c) (argW m c) (argWs m c) (j 0) (j 1) (j 2))
      ∧ r.2.mem ((c.tc : Thread nD τ).loc main_v5) = (fun j : S6x4096x8192.Idx => tokenCode (argX m c) (argS m c) (j 0) (j 1) (j 2))
      ∧ r.2.mem ((c.tc : Thread nD τ).loc main_v6) = (fun j : S6x4096x1.Idx => tokenScale (argX m c) (argS m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h.1 c).2 main_v4 (Pipeline.mem_restRefs_of main_v4 (by decide) (by decide))).trans (result_y m c),
      ((h.1 c).2 main_v5 (Pipeline.mem_restRefs_of main_v5 (by decide) (by decide))).trans (result_codes m c),
      ((h.1 c).2 main_v6 (Pipeline.mem_restRefs_of main_v6 (by decide) (by decide))).trans (result_scales m c), h.2.1 c⟩)
    (θ_run_and ((θ_run defs _ _).mono (fun _ h => h.1) (run_main m ρ)) (frame m ρ))

end Cert.Proof.KernelIdeal

end
-- ==== Proof.ReferenceIdeal.Payload.lean ====
module

public import proofs.«01_k».proof.Proof.Gen.ReferenceIdeal.Frame
public import proofs.«01_k».proof.Proof.Math.Layer
public import Idealize.ShloMosaic.Lib.Pointwise

/-! # The reference's block, entry by entry

What the reference stores, as functions of the arrays that it reads: the scale of a row, its codes, and its outputs. -/

@[expose] public section

set_option maxRecDepth 16384

noncomputable section

namespace Cert.Proof.ReferenceIdeal

open Cert.ReferenceIdeal Cert.ReferenceIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The infinity's pattern. -/
theorem top_bits : Ideal.ofBits .f32 0x7F800000#32 = ⊤ :=
  (ieee_of_fields 0x7F800000#32 255 (by decide) (by decide) (by decide)).trans (by simp [P])

/-- The pattern of 1. -/
theorem one_bits : Ideal.ofBits .f32 0x3F800000#32 = 1 :=
  (ieee_of_fields 0x3F800000#32 127 (by decide) (by decide) (by decide)).trans P_one

/-- The pattern of the least normal number. -/
theorem tiny_bits : Ideal.ofBits .f32 0x00800000#32 = P 1 :=
  ieee_of_fields 0x00800000#32 1 (by decide) (by decide) (by decide)

/-! ## The stages over whole arrays -/

/-- The largest magnitude of each row. -/
def maxCol (x : FVec Ideal S24576x8192 .f32) : FVec Ideal S24576 .f32 :=
  multiReduction .maximumf [1] S24576 (absf x) 0xFF800000#32 reduces_S24576x8192_S24576 (.inl rfl) rfl

/-- The largest magnitude of each row, times the reciprocal of the largest code. -/
def quotCol (x : FVec Ideal S24576x8192 .f32) : FVec Ideal S24576x1 .f32 :=
  mulf (shapeCast S24576x1 (maxCol x) shapeCasts_S24576_S24576x1) (broadcast S24576x1 (Scalar.ofBits .f32 0x3B124925#32))

/-- The table's entries above the quotient, and the infinity in place of the others. -/
def above (q : FVec Ideal S24576x1 .f32) (pw : FVec Ideal S1x253 .f32) : FVec Ideal S24576x253 .f32 :=
  select (cmpf .olt (broadcastTo S24576x253 q broadcasts_S24576x1_S24576x253)
      (broadcastTo S24576x253 (shapeCast S1x253 pw shapeCasts_S1x253_S1x253) broadcasts_S1x253_S24576x253))
    (broadcastTo S24576x253 (shapeCast S1x253 (shapeCast S1x253 pw shapeCasts_S1x253_S1x253) shapeCasts_S1x253_S1x253) broadcasts_S1x253_S24576x253)
    (broadcast S24576x253 (Scalar.ofBits .f32 0x7F800000#32))

/-- The least entry above the quotient. -/
def least (q : FVec Ideal S24576x1 .f32) (pw : FVec Ideal S1x253 .f32) : FVec Ideal S24576x1 .f32 :=
  shapeCast S24576x1 (multiReduction .minimumf [1] S24576 (above q pw) 0x7F800000#32 reduces_S24576x253_S24576 (.inl rfl) rfl) shapeCasts_S24576_S24576x1

/-- The scale: 1 where the quotient is below the least normal number or infinite, and `l` elsewhere. -/
def scaleCol (q l : FVec Ideal S24576x1 .f32) : FVec Ideal S24576x1 .f32 :=
  select (ori (cmpf .olt q (broadcast S24576x1 (Scalar.ofBits .f32 0x00800000#32)))
    (cmpf .oeq q (broadcast S24576x1 (Scalar.ofBits .f32 0x7F800000#32)))) (broadcast S24576x1 (Scalar.ofBits .f32 0x3F800000#32)) l

/-- The inverse of the scale, and zero where it is below the least normal number. -/
def invCol (s : FVec Ideal S24576x1 .f32) : FVec Ideal S24576x1 .f32 :=
  select (cmpf .olt (divf (broadcast S24576x1 (Scalar.ofBits .f32 0x3F800000#32)) s) (broadcast S24576x1 (Scalar.ofBits .f32 0x00800000#32)))
    (broadcast S24576x1 (Scalar.ofBits .f32 0x00000000#32)) (divf (broadcast S24576x1 (Scalar.ofBits .f32 0x3F800000#32)) s)

/-- Each row times its entry of the column. -/
def mulCol (x : FVec Ideal S24576x8192 .f32) (s : FVec Ideal S24576x1 .f32) : FVec Ideal S24576x8192 .f32 :=
  mulf x (broadcastTo S24576x8192 s broadcasts_S24576x1_S24576x8192)

/-- The stored scales, stage by stage. -/
theorem pay4_eq (v0 : FVec Ideal S24576x8192 .bf16) (v3 : FVec Ideal S1x8192 .f32) (pw : FVec Ideal S1x253 .f32) :
    k0_pay4 v0 v3 pw pw = scaleCol (quotCol (k0_pay3 v0 v3)) (least (quotCol (k0_pay3 v0 v3)) pw) := rfl

/-- The scaled rows, stage by stage. -/
theorem pay5_eq (v0 : FVec Ideal S24576x8192 .bf16) (v3 : FVec Ideal S1x8192 .f32) (pw : FVec Ideal S1x253 .f32) :
    k0_pay5 v0 v3 pw pw = mulCol (k0_pay3 v0 v3) (invCol (k0_pay4 v0 v3 pw pw)) := rfl

/-! ## The stages at an index -/

/-- The maximum along an axis of 8192, at one index, folds over that axis's coordinates. -/
theorem rowMax_apply (x : S24576x8192.Idx → EReal) (r : Fin 24576) :
    multiReduction (F := Ideal) (φ := .f32) .maximumf [1] S24576 x 0xFF800000#32 reduces_S24576x8192_S24576 (.inl rfl) rfl (ix1 r)
      = (Finset.univ : Finset (Fin 8192)).fold max (Ideal.ofBits .f32 0xFF800000#32) fun k => x (ix2 r k) := by
  refine (Ideal.multiReduction_maximumf_single (φ := .f32) x _ reduces_S24576x8192_S24576 (.inl rfl) rfl (ix1 r)).trans ?_
  refine Finset.fold_congr fun k _ => ?_
  exact congrArg x (funext fun a => by match a with | ⟨0, _⟩ => rfl | ⟨1, _⟩ => rfl)

/-- A column times the reciprocal of the largest code, at a row. -/
theorem scaled_apply (v : S24576.Idx → EReal) (r : Fin 24576) :
    mulf (F := Ideal) (φ := .f32) (shapeCast S24576x1 v shapeCasts_S24576_S24576x1) (broadcast S24576x1 (Scalar.ofBits .f32 0x3B124925#32)) (ix2 r 0) = v (ix1 r) * kappa := by
  unfold kappa
  pointwise

/-- The column of maxima at a row. -/
theorem maxCol_apply (x : S24576x8192.Idx → EReal) (r : Fin 24576) : maxCol x (ix1 r) = amax (fun k => x (ix2 r k)) := by
  have ha : ∀ i, absf (F := Ideal) (φ := .f32) x i = max (x i) (-(x i)) := fun _ => rfl
  unfold maxCol amax
  rw [rowMax_apply]
  simp only [ha]

/-- The column of quotients at a row. -/
theorem quotCol_apply (x : S24576x8192.Idx → EReal) (r : Fin 24576) :
    quotCol x (ix2 r 0) = amax (fun k => x (ix2 r k)) * kappa := by
  unfold quotCol
  rw [scaled_apply, maxCol_apply]

/-- The masked table at a row and an entry. -/
theorem above_apply (q : S24576x1.Idx → EReal) (pw : S1x253.Idx → EReal) (r : Fin 24576) (j : Fin 253) :
    above q pw (ix2 r j) = if q (ix2 r 0) < pw (ix2 0 j) then pw (ix2 0 j) else ⊤ := by
  rw [← top_bits]
  pointwise [above]

/-- The least entry above, for the table of powers. -/
theorem least_apply (pw : S1x253.Idx → EReal) (hp : ∀ j : Fin 253, pw (ix2 0 j) = P (j.1 + 2)) (q : S24576x1.Idx → EReal) (r : Fin 24576) :
    least q pw (ix2 r 0) = leastAbove (q (ix2 r 0)) := by
  pointwise [least]
  rw [top_bits]
  simp only [above_apply, hp]
  unfold leastAbove
  with_reducible rfl

/-- The scale at a row, from its quotient and the least entry above. -/
theorem scaleCol_apply (q l : S24576x1.Idx → EReal) (i : S24576x1.Idx) : scaleCol q l i = if q i < P 1 ∨ q i = ⊤ then 1 else l i := by
  have e : ∀ q l : EReal, Scalar.select (IntOp.ori (Ideal.cmp .olt q (Ideal.ofBits .f32 0x00800000#32)) (Ideal.cmp .oeq q (Ideal.ofBits .f32 0x7F800000#32)))
      (Ideal.ofBits .f32 0x3F800000#32) l = if q < P 1 ∨ q = ⊤ then 1 else l := fun q l => by
    rw [top_bits, one_bits, tiny_bits]
    unfold Scalar.select Ideal.cmp IntOp.ori
    by_cases h1 : q < P 1 <;> by_cases h2 : q = ⊤ <;> simp [h1, h2]
  exact e (q i) (l i)

/-- The inverse at a row. -/
theorem invCol_apply (s : S24576x1.Idx → EReal) (i : S24576x1.Idx) : invCol s i = invR (s i) := by
  have e : ∀ d : EReal, Scalar.select (Ideal.cmp .olt (Ideal.div (Ideal.ofBits .f32 0x3F800000#32) d) (Ideal.ofBits .f32 0x00800000#32))
      (Ideal.ofBits .f32 0x00000000#32) (Ideal.div (Ideal.ofBits .f32 0x3F800000#32) d) = invR d := fun d => by
    rw [Ideal.ofBits_zero_f32, one_bits, tiny_bits]
    unfold Scalar.select Ideal.cmp invR
    by_cases h : Ideal.div 1 d < P 1 <;> simp [h]
  exact e (s i)

/-- A row's entry times its row's entry of the column. -/
theorem mulCol_apply (x : S24576x8192.Idx → EReal) (s : S24576x1.Idx → EReal) (r : Fin 24576) (k : Fin 8192) :
    mulCol x s (ix2 r k) = x (ix2 r k) * s (ix2 r 0) := by
  pointwise [mulCol]

/-- The clipped value at a row and a column. -/
theorem clip_apply (x : S24576x8192.Idx → EReal) (i : S24576x8192.Idx) :
    k0_pay1 (F := Ideal) x (Scalar.ofBits .f32 0xC3E00000#32) (Scalar.ofBits .f32 0x43E00000#32) i
      = min (Ideal.ofBits .f32 0x43E00000#32) (max (Ideal.ofBits .f32 0xC3E00000#32) (x i)) := rfl

/-- The product stage over any array of codes. -/
def outOf (z : FVec Ideal S24576x8192 .fp8e4m3) (sc : FVec Ideal S24576x1 .f32) (w : FVec Ideal S11264x8192 .fp8e4m3) (ws : FVec Ideal S1x11264 .f32) :
    FVec Ideal S24576x11264 .bf16 :=
  truncf .bf16 (mulf (mulf (matmul dot_S24576x8192_S11264x8192_S24576x11264_1_1_0_0_n_n none z w (constant S24576x11264 .f32 0x00000000#32))
    (broadcastTo S24576x11264 sc broadcasts_S24576x1_S24576x11264))
    (broadcastTo S24576x11264 (shapeCast S1x11264 ws shapeCasts_S1x11264_S1x11264) broadcasts_S1x11264_S24576x11264)) bitsLt_bf16_f32

/-- The stored outputs are the product stage over the codes. -/
theorem pay2_eq (sc : FVec Ideal S24576x1 .f32) (c : FVec Ideal S24576x8192 .f32) (lo hi : Ideal .f32) (w : FVec Ideal S11264x8192 .fp8e4m3) (ws : FVec Ideal S1x11264 .f32) :
    k0_pay2 sc c lo hi w ws = outOf (k0_pay1 c lo hi) sc w ws := rfl

/-- The product stage at a row and a column. -/
theorem outOf_apply (z : S24576x8192.Idx → EReal) (sc : S24576x1.Idx → EReal) (w : S11264x8192.Idx → EReal) (ws : S1x11264.Idx → EReal)
    (r : Fin 24576) (n : Fin 11264) : outOf z sc w ws (ix2 r n) = (∑ k : Fin 8192, z (ix2 r k) * w (ix2 n k)) * sc (ix2 r 0) * ws (ix2 0 n) := by
  pointwise [outOf]

/-! ## The stored values -/

section

variable (v0 : S24576x8192.Idx → EReal) (v3 : S1x8192.Idx → EReal) (pw : S1x253.Idx → EReal)

/-- Row `r` of the array `v0`, each column divided by its entry of `v3`. -/
def xRow (r : Fin 24576) : Fin 8192 → EReal := fun k => Ideal.div (v0 (ix2 r k)) (v3 (ix2 0 k))

/-- The smoothed value at a row and a column. -/
theorem pay3_apply (r : Fin 24576) (k : Fin 8192) : k0_pay3 (F := Ideal) v0 v3 (ix2 r k) = Ideal.div (v0 (ix2 r k)) (v3 (ix2 0 k)) := by
  pointwise [k0_pay3]

/-- The smoothed values of one row. -/
theorem pay3_row (r : Fin 24576) : (fun k => k0_pay3 (F := Ideal) v0 v3 (ix2 r k)) = xRow v0 v3 r := by
  simp only [pay3_apply]
  unfold xRow
  with_reducible rfl

/-- The scale of a row. -/
theorem pay4_apply (hp : ∀ j : Fin 253, pw (ix2 0 j) = P (j.1 + 2)) (r : Fin 24576) :
    k0_pay4 (F := Ideal) v0 v3 pw pw (ix2 r 0) = rowScale (xRow v0 v3 r) := by
  rw [pay4_eq, scaleCol_apply, least_apply pw hp, quotCol_apply, pay3_row]
  unfold rowScale scaleR
  with_reducible rfl

/-- A row's code. -/
theorem code_apply (hp : ∀ j : Fin 253, pw (ix2 0 j) = P (j.1 + 2)) (r : Fin 24576) (k : Fin 8192) :
    k0_pay1 (F := Ideal) (k0_pay5 v0 v3 pw pw) (Scalar.ofBits .f32 0xC3E00000#32) (Scalar.ofBits .f32 0x43E00000#32) (ix2 r k)
      = rowCode (xRow v0 v3 r) k := by
  rw [clip_apply, pay5_eq, mulCol_apply, invCol_apply, pay4_apply v0 v3 pw hp, pay3_apply]
  unfold rowCode xRow
  with_reducible rfl

/-- An output: a row of codes times a row of weights, times the row's scale, times the output channel's scale. -/
theorem out_apply (hp : ∀ j : Fin 253, pw (ix2 0 j) = P (j.1 + 2)) (w : S11264x8192.Idx → EReal) (ws : S1x11264.Idx → EReal)
    (r : Fin 24576) (n : Fin 11264) :
    k0_pay2 (F := Ideal) (k0_pay4 v0 v3 pw pw) (k0_pay5 v0 v3 pw pw) (Scalar.ofBits .f32 0xC3E00000#32) (Scalar.ofBits .f32 0x43E00000#32) w ws (ix2 r n)
      = (∑ k : Fin 8192, rowCode (xRow v0 v3 r) k * w (ix2 n k)) * rowScale (xRow v0 v3 r) * ws (ix2 0 n) := by
  rw [pay2_eq, outOf_apply, pay4_apply v0 v3 pw hp]
  simp only [code_apply v0 v3 pw hp]

end

end Cert.Proof.ReferenceIdeal

end
-- ==== Proof.ReferenceIdeal.Table.lean ====
module

public import proofs.«01_k».proof.Proof.ReferenceIdeal.Payload
public import Idealize.ShloMosaic.Lib.StableHlo.RunRead

/-! # The reference's table of powers of two

The table that the reference computes before its block holds the powers of two from 2^(-125) to 2^127. -/

@[expose] public section

set_option maxRecDepth 16384

noncomputable section

namespace Cert.Proof.ReferenceIdeal

open Cert.ReferenceIdeal Cert.ReferenceIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The pattern of 2. -/
theorem two_bits : Ideal.ofBits .f32 0x40000000#32 = ((2 : ℝ) : EReal) :=
  (ieee_of_fields 0x40000000#32 128 (by decide) (by decide) (by decide)).trans (by unfold P; norm_num)

/-- The pattern of -125, the first exponent. -/
theorem start_bits : Ideal.ofBits .f32 0xC2FA0000#32 = ((-125 : ℝ) : EReal) := by
  show Ideal.ieee 8 23 0xC2FA0000#32 = _
  have h1 : (BitVec.extractLsb' (8 + 23) 1 (0xC2FA0000#32 : BitVec 32) == 1#1) = true := by decide
  have h2 : (BitVec.extractLsb' 23 8 (0xC2FA0000#32 : BitVec 32)).toNat = 133 := by decide
  have h3 : (BitVec.extractLsb' 0 23 (0xC2FA0000#32 : BitVec 32)).toNat = 7995392 := by decide
  unfold Ideal.ieee
  simp only [h1, h2, h3]
  norm_num

/-- The power of two of the `j`-th exponent. -/
theorem pow_entry (j : Fin 253) : Ideal.pow (Ideal.ofBits .f32 0x40000000#32)
    (Ideal.ofBits .f32 0xC2FA0000#32 + (((BitVec.ofNat 32 j.1).toInt : ℝ) : EReal)) = P (j.1 + 2) := by
  have hj : (BitVec.ofNat 32 j.1).toInt = (j.1 : ℤ) := by
    rw [BitVec.toInt_eq_toNat_of_lt (by rw [BitVec.toNat_ofNat]; have := j.2; omega), BitVec.toNat_ofNat]
    have := j.2; omega
  rw [two_bits, start_bits, hj, ← EReal.coe_add, Ideal.pow_coe_coe]
  unfold P
  rw [if_neg (by omega), if_neg (by have := j.2; omega)]
  congr 1
  rw [show ((-125 : ℝ) + ((j.1 : ℤ) : ℝ)) = ((((j.1 + 2 : ℕ) : ℤ) - 127 : ℤ) : ℝ) by push_cast; ring]
  exact Real.rpow_intCast 2 _

/-- The table, as the operations before the block compute it. -/
def table : FVec Ideal S253 .f32 :=
  Host.powf (broadcastInDim S253 ![] bcast_S_S253 (constant (F := Ideal) S_ .f32 0x40000000#32))
    (addf (broadcastInDim S253 ![] bcast_S_S253 (constant (F := Ideal) S_ .f32 0xC2FA0000#32)) (sitofp .f32 (iotaInDim S253 32 0)))

/-- Entry `j` of the table is the power of biased exponent `j + 2`. -/
theorem table_apply (j : Fin 253) : table (ix1 j) = P (j.1 + 2) := pow_entry j

/-- The table as one row. -/
theorem cast_table (v : S253.Idx → EReal) (j : Fin 253) : shapeCast S1x253 v shapeCasts_S253_S1x253 (ix2 0 j) = v (ix1 j) := by pointwise

end Cert.Proof.ReferenceIdeal

end
-- ==== Proof.ReferenceIdeal.Block.lean ====
module

public import proofs.«01_k».proof.Proof.ReferenceIdeal.Table
public import Idealize.ShloMosaic.Lib.Pipeline.ValueKit.Basic
public import Idealize.ShloMosaic.Lib.Pipeline.ValueKit.Geometry

/-! # The reference's arrays

The reference's grid has one point, whose blocks are the whole arrays; so the arrays that it leaves are the stored values. -/

@[expose] public section

set_option maxRecDepth 16384

noncomputable section

namespace Cert.Proof.ReferenceIdeal

open Cert.ReferenceIdeal Cert.ReferenceIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The blocks are the arrays -/

/-- A rank-2 index is the pair of its coordinates. -/
theorem split2 {p q : ℕ} (j : (⟨2, ![p, q]⟩ : Shape).Idx) : ∃ (a : Fin p) (b : Fin q), j = ix2 a b :=
  ⟨j 0, j 1, funext fun a => by match a with | ⟨0, _⟩ => rfl | ⟨1, _⟩ => rfl⟩

/-- Two functions of a rank-2 index that agree at every two coordinates are equal. -/
theorem ext2 {α : Type} {p q : ℕ} {f g : (⟨2, ![p, q]⟩ : Shape).Idx → α} (h : ∀ (a : Fin p) (b : Fin q), f (ix2 a b) = g (ix2 a b)) : f = g := by
  funext j
  obtain ⟨a, b, rfl⟩ := split2 j
  exact h a b

/-- The one block of the activations is block 0. -/
theorem idx0 : ∀ t : Fin grid0.N, win0_0.index t = ![0, 0] := by decide +kernel

/-- The one block of the smoothing factors is block 0. -/
theorem idx1 : ∀ t : Fin grid0.N, win0_1.index t = ![0, 0] := by decide +kernel

/-- The one block of the table is block 0. -/
theorem idx2 : ∀ t : Fin grid0.N, win0_2.index t = ![0, 0] := by decide +kernel

/-- The one block of the weights is block 0. -/
theorem idx3 : ∀ t : Fin grid0.N, win0_3.index t = ![0, 0] := by decide +kernel

/-- The one block of the channel scales is block 0. -/
theorem idx4 : ∀ t : Fin grid0.N, win0_4.index t = ![0, 0] := by decide +kernel

/-- The one block of the outputs is block 0. -/
theorem idx5 : ∀ t : Fin grid0.N, win0_5.index t = ![0, 0] := by decide +kernel

/-- The one block of the codes is block 0. -/
theorem idx6 : ∀ t : Fin grid0.N, win0_6.index t = ![0, 0] := by decide +kernel

/-- The one block of the scales is block 0. -/
theorem idx7 : ∀ t : Fin grid0.N, win0_7.index t = ![0, 0] := by decide +kernel

/-- An element of the block of activations lies at the same place of its array. -/
theorem emb0 (t : Fin grid0.N) (j : S24576x8192.Idx) : ((cfg0.win 0).blk t).view.emb j = j := by blk_ext [idx0]

/-- An element of the block of smoothing factors lies at the same place of its array. -/
theorem emb1 (t : Fin grid0.N) (j : S1x8192.Idx) : ((cfg0.win 1).blk t).view.emb j = j := by blk_ext [idx1]

/-- An element of the block of table lies at the same place of its array. -/
theorem emb2 (t : Fin grid0.N) (j : S1x253.Idx) : ((cfg0.win 2).blk t).view.emb j = j := by blk_ext [idx2]

/-- An element of the block of weights lies at the same place of its array. -/
theorem emb3 (t : Fin grid0.N) (j : S11264x8192.Idx) : ((cfg0.win 3).blk t).view.emb j = j := by blk_ext [idx3]

/-- An element of the block of channel scales lies at the same place of its array. -/
theorem emb4 (t : Fin grid0.N) (j : S1x11264.Idx) : ((cfg0.win 4).blk t).view.emb j = j := by blk_ext [idx4]

/-- An element of the block of outputs lies at the same place of its array. -/
theorem emb5 (t : Fin grid0.N) (j : S24576x11264.Idx) : ((cfg0.win 5).blk t).view.emb j = j := by blk_ext [idx5]

/-- An element of the block of codes lies at the same place of its array. -/
theorem emb6 (t : Fin grid0.N) (j : S24576x8192.Idx) : ((cfg0.win 6).blk t).view.emb j = j := by blk_ext [idx6]

/-- An element of the block of scales lies at the same place of its array. -/
theorem emb7 (t : Fin grid0.N) (j : S24576x1.Idx) : ((cfg0.win 7).blk t).view.emb j = j := by blk_ext [idx7]

/-- The block of activations is the whole array. -/
theorem iblk0_eq (c : Dev nD) (t : Fin cfg0.N) : iblk m c 0 t = V m c main_v5 := funext fun j => congrArg (V m c main_v5) (emb0 t j)

/-- The block of smoothing factors is the whole array. -/
theorem iblk1_eq (c : Dev nD) (t : Fin cfg0.N) : iblk m c 1 t = V m c main_v6 := funext fun j => congrArg (V m c main_v6) (emb1 t j)

/-- The block of table is the whole array. -/
theorem iblk2_eq (c : Dev nD) (t : Fin cfg0.N) : iblk m c 2 t = V m c main_v7 := funext fun j => congrArg (V m c main_v7) (emb2 t j)

/-- The block of weights is the whole array. -/
theorem iblk3_eq (c : Dev nD) (t : Fin cfg0.N) : iblk m c 3 t = V m c main_arg2 := funext fun j => congrArg (V m c main_arg2) (emb3 t j)

/-- The block of channel scales is the whole array. -/
theorem iblk4_eq (c : Dev nD) (t : Fin cfg0.N) : iblk m c 4 t = V m c main_v8 := funext fun j => congrArg (V m c main_v8) (emb4 t j)

/-! ## The reshapes before the grid -/

/-- The grid's activations are the argument's, reshaped. -/
theorem V_v5 (c : Dev nD) : V m c main_v5 = shapeCast S24576x8192 (m ((c.tc : Thread nD τ).loc main_arg0)) shapeCasts_S6x4096x8192_S24576x8192 := by
  show StableHlo.after (List.flatten [hostOps0]) (fun b => m (c, b)) (Proc.devRef .tc main_v5) = _
  simp only [hostOps0, List.flatten_cons, List.flatten_nil, List.append_nil]
  after_results
  rfl

/-- The grid's smoothing factors are the argument's, reshaped. -/
theorem V_v6 (c : Dev nD) : V m c main_v6 = shapeCast S1x8192 (m ((c.tc : Thread nD τ).loc main_arg1)) shapeCasts_S8192_S1x8192 := by
  show StableHlo.after (List.flatten [hostOps0]) (fun b => m (c, b)) (Proc.devRef .tc main_v6) = _
  simp only [hostOps0, List.flatten_cons, List.flatten_nil, List.append_nil]
  after_results
  rfl

/-- The grid's channel scales are the argument's, reshaped. -/
theorem V_v8 (c : Dev nD) : V m c main_v8 = shapeCast S1x11264 (m ((c.tc : Thread nD τ).loc main_arg3)) shapeCasts_S11264_S1x11264 := by
  show StableHlo.after (List.flatten [hostOps0]) (fun b => m (c, b)) (Proc.devRef .tc main_v8) = _
  simp only [hostOps0, List.flatten_cons, List.flatten_nil, List.append_nil]
  after_results
  rfl

/-- The grid's table is the table of powers, reshaped. -/
theorem V_v7 (c : Dev nD) : V m c main_v7 = shapeCast S1x253 table shapeCasts_S253_S1x253 := by
  show StableHlo.after (List.flatten [hostOps0]) (fun b => m (c, b)) (Proc.devRef .tc main_v7) = _
  simp only [hostOps0, List.flatten_cons, List.flatten_nil, List.append_nil]
  after_results
  rfl

/-- The table that the grid reads. -/
theorem powers_eq (c : Dev nD) (j : Fin 253) : (V m c main_v7 : S1x253.Idx → EReal) (ix2 0 j) = P (j.1 + 2) := by
  rw [V_v7]
  exact (cast_table table j).trans (table_apply j)

/-! ## The stored values -/

/-- The rows, the smoothing factors, the weights and the channel scales that the grid reads. -/
def xr (c : Dev nD) : S24576x8192.Idx → EReal := V m c main_v5
/-- The smoothing factors that the grid reads. -/
def sr (c : Dev nD) : S1x8192.Idx → EReal := V m c main_v6
/-- The table that the grid reads. -/
def pr (c : Dev nD) : S1x253.Idx → EReal := V m c main_v7
/-- The weights that the grid reads. -/
def wr (c : Dev nD) : S11264x8192.Idx → EReal := V m c main_arg2
/-- The channel scales that the grid reads. -/
def wsr (c : Dev nD) : S1x11264.Idx → EReal := V m c main_v8

/-- The offset of a whole array is zero. -/
theorem hz : (![0, 0] : Fin 2 → Nat) = fun _ => 0 := funext fun a => by fin_cases a <;> rfl

section

variable (x0 : Vec Ideal S24576x8192 .bf16) (x1 : Vec Ideal S1x8192 .f32) (x2 : Vec Ideal S1x253 .f32) (x3 : Vec Ideal S11264x8192 .fp8e4m3) (x4 : Vec Ideal S1x11264 .f32)

/-- The scales as a function of whole arrays. -/
theorem pay6_eq : k0_pay6 x0 x1 x2 x3 x4 = k0_pay4 x0 x1 x2 x2 := by
  unfold k0_pay6
  rw [View.ld_unit_zero hz, View.ld_unit_zero hz, View.ld_unit_zero hz]

/-- The scaled rows as a function of whole arrays. -/
theorem pay7_eq : k0_pay7 x0 x1 x2 x3 x4 = k0_pay5 x0 x1 x2 x2 := by
  unfold k0_pay7
  rw [View.ld_unit_zero hz, View.ld_unit_zero hz, View.ld_unit_zero hz]

/-- The stored outputs as a function of the arrays read. -/
theorem out5_eq : out0_5 x0 x1 x2 x3 x4 = k0_pay2 (k0_pay4 x0 x1 x2 x2) (k0_pay5 x0 x1 x2 x2) (Scalar.ofBits .f32 0xC3E00000#32) (Scalar.ofBits .f32 0x43E00000#32) x3 x4 := by
  unfold out0_5
  rw [View.canon_unit_zero hz, pay6_eq, pay7_eq, View.ld_unit_zero hz, View.ld_unit_zero hz]

/-- The stored codes as a function of the arrays read. -/
theorem out6_eq : out0_6 x0 x1 x2 x3 x4 = k0_pay1 (k0_pay5 x0 x1 x2 x2) (Scalar.ofBits .f32 0xC3E00000#32) (Scalar.ofBits .f32 0x43E00000#32) := by
  unfold out0_6
  rw [View.canon_unit_zero hz, pay7_eq]

/-- The stored scales as a function of the arrays read. -/
theorem out7_eq : out0_7 x0 x1 x2 x3 x4 = k0_pay4 x0 x1 x2 x2 := by
  unfold out0_7
  rw [View.canon_unit_zero hz, pay6_eq]

end

/-! ## The arrays after the grid -/

/-- The array of outputs. -/
def yArr (c : Dev nD) : S24576x11264.Idx → EReal := fun y =>
  (∑ k : Fin 8192, rowCode (xRow (xr m c) (sr m c) (y 0)) k * wr m c (ix2 (y 1) k)) * rowScale (xRow (xr m c) (sr m c) (y 0)) * wsr m c (ix2 0 (y 1))

/-- The array of codes. -/
def codeArr (c : Dev nD) : S24576x8192.Idx → EReal := fun y => rowCode (xRow (xr m c) (sr m c) (y 0)) (y 1)

/-- The array of scales. -/
def scaleArr (c : Dev nD) : S24576x1.Idx → EReal := fun y => rowScale (xRow (xr m c) (sr m c) (y 0))

/-- The array of outputs at a row and a column. -/
theorem yArr_apply (c : Dev nD) (r : Fin 24576) (n : Fin 11264) : yArr m c (ix2 r n)
    = (∑ k : Fin 8192, rowCode (xRow (xr m c) (sr m c) r) k * wr m c (ix2 n k)) * rowScale (xRow (xr m c) (sr m c) r) * wsr m c (ix2 0 n) := rfl

/-- The array of codes at a row and a column. -/
theorem codeArr_apply (c : Dev nD) (r : Fin 24576) (k : Fin 8192) : codeArr m c (ix2 r k) = rowCode (xRow (xr m c) (sr m c) r) k := rfl

/-- The array of scales at a row. -/
theorem scaleArr_apply (c : Dev nD) (r : Fin 24576) : scaleArr m c (ix2 r 0) = rowScale (xRow (xr m c) (sr m c) r) := rfl

/-- The table that the grid reads holds the powers of two. -/
theorem pr_eq (c : Dev nD) (j : Fin 253) : pr m c (ix2 0 j) = P (j.1 + 2) := powers_eq m c j

/-- What the one point leaves in the block of outputs. -/
theorem after5_eq (c : Dev nD) (t : Fin cfg0.N) : (dats m 0 c).after 5 t = yArr m c := by
  rw [after0_5, iblk0_eq, iblk1_eq, iblk2_eq, iblk3_eq, iblk4_eq, out5_eq]
  refine ext2 fun r n => ?_
  rw [yArr_apply]
  exact out_apply (xr m c) (sr m c) (pr m c) (pr_eq m c) (wr m c) (wsr m c) r n

/-- What the one point leaves in the block of codes. -/
theorem after6_eq (c : Dev nD) (t : Fin cfg0.N) : (dats m 0 c).after 6 t = codeArr m c := by
  rw [after0_6, iblk0_eq, iblk1_eq, iblk2_eq, iblk3_eq, iblk4_eq, out6_eq]
  refine ext2 fun r k => ?_
  rw [codeArr_apply]
  exact code_apply (xr m c) (sr m c) (pr m c) (pr_eq m c) r k

/-- What the one point leaves in the block of scales. -/
theorem after7_eq (c : Dev nD) (t : Fin cfg0.N) : (dats m 0 c).after 7 t = scaleArr m c := by
  rw [after0_7, iblk0_eq, iblk1_eq, iblk2_eq, iblk3_eq, iblk4_eq, out7_eq]
  refine ext2 fun r u => ?_
  obtain rfl : u = 0 := Subsingleton.elim _ _
  rw [scaleArr_apply]
  exact pay4_apply (xr m c) (sr m c) (pr m c) (pr_eq m c) r

/-- The block of outputs covers its array. -/
theorem covers5 : win0_5.Covers := by decide +kernel
/-- The block of codes covers its array. -/
theorem covers6 : win0_6.Covers := by decide +kernel
/-- The block of scales covers its array. -/
theorem covers7 : win0_7.Covers := by decide +kernel

/-- After the grid the array of outputs holds the outputs of every row. -/
theorem arr_y (c : Dev nD) : (dats m 0 c).arrAt 5 cfg0.N = yArr m c :=
  (dats m 0 c).arrAt_eq_of_covers 5 (yArr m c) covers5 fun t hf (y : S24576x11264.Idx) => by
    show (dats m 0 c).after 5 t y = yArr m c (((cfg0.win 5).blk t).view.emb y)
    rw [emb5, after5_eq]

/-- After the grid the array of codes holds the codes of every row. -/
theorem arr_codes (c : Dev nD) : (dats m 0 c).arrAt 6 cfg0.N = codeArr m c :=
  (dats m 0 c).arrAt_eq_of_covers 6 (codeArr m c) covers6 fun t hf (y : S24576x8192.Idx) => by
    show (dats m 0 c).after 6 t y = codeArr m c (((cfg0.win 6).blk t).view.emb y)
    rw [emb6, after6_eq]

/-- After the grid the array of scales holds the scale of every row. -/
theorem arr_scales (c : Dev nD) : (dats m 0 c).arrAt 7 cfg0.N = scaleArr m c :=
  (dats m 0 c).arrAt_eq_of_covers 7 (scaleArr m c) covers7 fun t hf (y : S24576x1.Idx) => by
    show (dats m 0 c).after 7 t y = scaleArr m c (((cfg0.win 7).blk t).view.emb y)
    rw [emb7, after7_eq]

/-! ## The reshapes after the grid -/

/-- The first result is the array of outputs, reshaped. -/
theorem W_v10 (c : Dev nD) : Pipeline.afterTail₀ cfgs (dats m) 0 (V0 m) [hostOps1] c main_v10
    = shapeCast S6x4096x11264 ((dats m 0 c).arrAt 5 cfg0.N) shapeCasts_S24576x11264_S6x4096x11264 := by
  unfold Pipeline.afterTail₀
  simp only [hostOps1, List.flatten_cons, List.flatten_nil, List.append_nil]
  after_results
  exact congrArg (fun z => shapeCast S6x4096x11264 z shapeCasts_S24576x11264_S6x4096x11264)
    (Pipeline.withArrays_arr (cfgs 0).spec launch0.win.arr_inj c (V0 m c) (fun w => (dats m 0 c).arrAt w cfg0.N) 5)

/-- The second result is the array of codes, reshaped. -/
theorem W_v11 (c : Dev nD) : Pipeline.afterTail₀ cfgs (dats m) 0 (V0 m) [hostOps1] c main_v11
    = shapeCast S6x4096x8192 ((dats m 0 c).arrAt 6 cfg0.N) shapeCasts_S24576x8192_S6x4096x8192 := by
  unfold Pipeline.afterTail₀
  simp only [hostOps1, List.flatten_cons, List.flatten_nil, List.append_nil]
  after_results
  exact congrArg (fun z => shapeCast S6x4096x8192 z shapeCasts_S24576x8192_S6x4096x8192)
    (Pipeline.withArrays_arr (cfgs 0).spec launch0.win.arr_inj c (V0 m c) (fun w => (dats m 0 c).arrAt w cfg0.N) 6)

/-- The third result is the array of scales, reshaped. -/
theorem W_v12 (c : Dev nD) : Pipeline.afterTail₀ cfgs (dats m) 0 (V0 m) [hostOps1] c main_v12
    = shapeCast S6x4096x1 ((dats m 0 c).arrAt 7 cfg0.N) shapeCasts_S24576x1_S6x4096x1 := by
  unfold Pipeline.afterTail₀
  simp only [hostOps1, List.flatten_cons, List.flatten_nil, List.append_nil]
  after_results
  exact congrArg (fun z => shapeCast S6x4096x1 z shapeCasts_S24576x1_S6x4096x1)
    (Pipeline.withArrays_arr (cfgs 0).spec launch0.win.arr_inj c (V0 m c) (fun w => (dats m 0 c).arrAt w cfg0.N) 7)

end Cert.Proof.ReferenceIdeal

end
-- ==== Proof.ReferenceIdeal.Values.lean ====
module

public import proofs.«01_k».proof.Proof.ReferenceIdeal.Block

/-! # The reference's results

Through the reshapes before and after its grid, the reference's three results are the same functions of the arguments as
the kernel's. -/

@[expose] public section

set_option maxRecDepth 16384

noncomputable section

namespace Cert.Proof.ReferenceIdeal

open Cert.ReferenceIdeal Cert.ReferenceIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The arguments as functions of their coordinates. -/
def argX (c : Dev nD) (b : Fin 6) (t : Fin 4096) (k : Fin 8192) : EReal := m ((c.tc : Thread nD τ).loc main_arg0) (ix3 b t k)
/-- The smoothing factors by column. -/
def argS (c : Dev nD) (k : Fin 8192) : EReal := m ((c.tc : Thread nD τ).loc main_arg1) (ix1 k)
/-- The weights by output channel and column. -/
def argW (c : Dev nD) (n : Fin 11264) (k : Fin 8192) : EReal := m ((c.tc : Thread nD τ).loc main_arg2) (ix2 n k)
/-- The channel scales by output channel. -/
def argWs (c : Dev nD) (n : Fin 11264) : EReal := m ((c.tc : Thread nD τ).loc main_arg3) (ix1 n)

/-- Flattening batches and tokens: row `4096 b + t` is token `t` of batch `b`. -/
theorem cast_rows (v : S6x4096x8192.Idx → EReal) (b : Fin 6) (t : Fin 4096) (k : Fin 8192) :
    shapeCast S24576x8192 v shapeCasts_S6x4096x8192_S24576x8192 (ix2 ⟨b.val * 4096 + t.val, by omega⟩ k) = v (ix3 b t k) := by pointwise

/-- The smoothing factors as one row. -/
theorem cast_smooth (v : S8192.Idx → EReal) (k : Fin 8192) : shapeCast S1x8192 v shapeCasts_S8192_S1x8192 (ix2 0 k) = v (ix1 k) := by pointwise

/-- The channel scales as one row. -/
theorem cast_channel (v : S11264.Idx → EReal) (n : Fin 11264) : shapeCast S1x11264 v shapeCasts_S11264_S1x11264 (ix2 0 n) = v (ix1 n) := by pointwise

/-- The grid's rows are the argument's tokens. -/
theorem xr_eq (c : Dev nD) (b : Fin 6) (t : Fin 4096) (k : Fin 8192) :
    xr m c (ix2 ⟨b.val * 4096 + t.val, by omega⟩ k) = argX m c b t k := by
  unfold xr argX; rw [V_v5]; exact cast_rows _ b t k

/-- The grid's smoothing factors by column. -/
theorem sr_eq (c : Dev nD) (k : Fin 8192) : sr m c (ix2 0 k) = argS m c k := by
  unfold sr argS; rw [V_v6]; exact cast_smooth _ k

/-- Row `4096 b + t` is token `t` of batch `b`. -/
theorem xRow_token (c : Dev nD) (b : Fin 6) (t : Fin 4096) :
    xRow (xr m c) (sr m c) ⟨b.val * 4096 + t.val, by omega⟩ = token (argX m c) (argS m c) b t := by
  funext k
  unfold xRow Math.token
  rw [xr_eq, sr_eq]

/-- The grid's weights are the argument's. -/
theorem wr_eq (c : Dev nD) (n : Fin 11264) (k : Fin 8192) : wr m c (ix2 n k) = argW m c n k := by
  unfold wr argW; rw [V_main_arg2]

/-- The grid's channel scales by output channel. -/
theorem wsr_eq (c : Dev nD) (n : Fin 11264) : wsr m c (ix2 0 n) = argWs m c n := by
  unfold wsr argWs; rw [V_v8]; exact cast_channel _ n

/-- Two functions of a rank-3 index that agree at every three coordinates are equal. -/
theorem ext3 {α : Type} {p q r : ℕ} {f g : (⟨3, ![p, q, r]⟩ : Shape).Idx → α}
    (h : ∀ (a : Fin p) (b : Fin q) (c : Fin r), f (ix3 a b c) = g (ix3 a b c)) : f = g := by
  funext j
  have e : j = ix3 (j 0) (j 1) (j 2) := funext fun a => by match a with | ⟨0, _⟩ => rfl | ⟨1, _⟩ => rfl | ⟨2, _⟩ => rfl
  rw [e]
  exact h _ _ _

/-- The outputs are the layer's. -/
theorem result_y (c : Dev nD) : Pipeline.afterTail₀ cfgs (dats m) 0 (V0 m) [hostOps1] c main_v10
    = fun j : S6x4096x11264.Idx => layer (argX m c) (argS m c) (argW m c) (argWs m c) (j 0) (j 1) (j 2) := by
  rw [W_v10, arr_y]
  refine ext3 fun b t n => ?_
  have e : shapeCast S6x4096x11264 (yArr m c) shapeCasts_S24576x11264_S6x4096x11264 (ix3 b t n) = yArr m c (ix2 ⟨b.val * 4096 + t.val, by omega⟩ n) := by
    pointwise
  rw [e, yArr_apply, xRow_token, wsr_eq]
  simp only [wr_eq]
  rfl

/-- The codes are the tokens' codes. -/
theorem result_codes (c : Dev nD) : Pipeline.afterTail₀ cfgs (dats m) 0 (V0 m) [hostOps1] c main_v11
    = fun j : S6x4096x8192.Idx => tokenCode (argX m c) (argS m c) (j 0) (j 1) (j 2) := by
  rw [W_v11, arr_codes]
  refine ext3 fun b t k => ?_
  have e : shapeCast S6x4096x8192 (codeArr m c) shapeCasts_S24576x8192_S6x4096x8192 (ix3 b t k) = codeArr m c (ix2 ⟨b.val * 4096 + t.val, by omega⟩ k) := by
    pointwise
  rw [e, codeArr_apply, xRow_token]
  rfl

/-- The scales are the tokens' scales. -/
theorem result_scales (c : Dev nD) : Pipeline.afterTail₀ cfgs (dats m) 0 (V0 m) [hostOps1] c main_v12
    = fun j : S6x4096x1.Idx => tokenScale (argX m c) (argS m c) (j 0) (j 1) := by
  rw [W_v12, arr_scales]
  refine ext3 fun b t u => ?_
  obtain rfl : u = 0 := Subsingleton.elim _ _
  have e : shapeCast S6x4096x1 (scaleArr m c) shapeCasts_S24576x1_S6x4096x1 (ix3 b t 0) = scaleArr m c (ix2 ⟨b.val * 4096 + t.val, by omega⟩ 0) := by
    pointwise
  rw [e, scaleArr_apply, xRow_token]
  rfl

end Cert.Proof.ReferenceIdeal

end
-- ==== Proof.ReferenceIdeal.Result.lean ====
module

public import proofs.«01_k».proof.Proof.ReferenceIdeal.Values

/-! # The reference's run

Every run of the reference ends with the three results of the layer and with the arguments unchanged. -/

@[expose] public section

set_option maxRecDepth 16384

noncomputable section

namespace Cert.Proof.ReferenceIdeal

open Cert.ReferenceIdeal Cert.ReferenceIdeal.Gen

open Idealize.ShloMosaic Idealize.ShloMosaic.Pointwise Cert.Proof.Math
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- Every run of the reference ends with the layer's outputs, codes and scales, and the arguments unchanged. -/
theorem run_values : θ_run defs (onTc (τ := τ) (main (F := Ideal))) ⟨m, fun _ => 0, ρ⟩ (fun r => ∀ c : Dev nD,
      r.2.mem ((c.tc : Thread nD τ).loc main_v10) = (fun j : S6x4096x11264.Idx => layer (argX m c) (argS m c) (argW m c) (argWs m c) (j 0) (j 1) (j 2))
      ∧ r.2.mem ((c.tc : Thread nD τ).loc main_v11) = (fun j : S6x4096x8192.Idx => tokenCode (argX m c) (argS m c) (j 0) (j 1) (j 2))
      ∧ r.2.mem ((c.tc : Thread nD τ).loc main_v12) = (fun j : S6x4096x1.Idx => tokenScale (argX m c) (argS m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h.1 c).2 main_v10 (Pipeline.mem_restRefs_of main_v10 (by decide) (by decide))).trans (result_y m c),
      ((h.1 c).2 main_v11 (Pipeline.mem_restRefs_of main_v11 (by decide) (by decide))).trans (result_codes m c),
      ((h.1 c).2 main_v12 (Pipeline.mem_restRefs_of main_v12 (by decide) (by decide))).trans (result_scales m c), h.2.1 c⟩)
    (θ_run_and (run_main m ρ) (frame m ρ))

end Cert.Proof.ReferenceIdeal

end
-- ==== Proof.lean ====
module

public import proofs.«01_k».proof.Defs
public import proofs.«01_k».proof.Proof.Kernel.Frame
public import proofs.«01_k».proof.Proof.KernelIdeal.Result
public import proofs.«01_k».proof.Proof.ReferenceIdeal.Result

@[expose] public section

noncomputable section

namespace Cert.Proof

open Idealize.ShloMosaic Idealize.SL.Sem Cert.Proof.Math

/-- Over the extended reals, on the same arguments, the kernel and the reference both end with the layer's outputs, codes and
    scales of those arguments. -/
theorem algebraic : Cert.algebraic_KernelIdeal_ReferenceIdeal := fun m ρ m' ρ' _ hargs => by
  have hX : ∀ c, ReferenceIdeal.argX m' c = KernelIdeal.argX m c := fun c => by
    funext b t k; exact congrFun (hargs c).1 _
  have hS : ∀ c, ReferenceIdeal.argS m' c = KernelIdeal.argS m c := fun c => by
    funext k; exact congrFun (hargs c).2.1 _
  have hW : ∀ c, ReferenceIdeal.argW m' c = KernelIdeal.argW m c := fun c => by
    funext n k; exact congrFun (hargs c).2.2.1 _
  have hWs : ∀ c, ReferenceIdeal.argWs m' c = KernelIdeal.argWs m c := fun c => by
    funext n; exact congrFun (hargs c).2.2.2 _
  refine ⟨_, _, _, KernelIdeal.run_values m ρ, ?_⟩
  have h := ReferenceIdeal.run_values m' ρ'
  simp only [hX, hS, hW, hWs] at h
  exact h

/-- Every claim. -/
theorem claim : Cert.Claim := ⟨Cert.Kernel.Gen.facts, Cert.KernelIdeal.Gen.facts, Cert.ReferenceIdeal.Gen.facts,
  fun m ρ _ => Kernel.frame m ρ, fun m ρ _ => KernelIdeal.frame m ρ, fun m ρ _ => Cert.ReferenceIdeal.Gen.frame m ρ,
  trivial, algebraic⟩

end Cert.Proof

end
